-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens_in_range [hPre_tokens_in_range : Cert.Pre_tokens_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_range [hPre_tokens_in_range : Cert.Pre_tokens_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_tokens_in_range [hKernelIdeal : Cert.KernelIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tokens_in_range [hReferenceIdeal : Cert.ReferenceIdeal.Facts] [hPre_tokens_in_range : Cert.Pre_tokens_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_tokens_in_range [hKernelIdeal : Cert.KernelIdeal.Facts] [hReferenceIdeal : Cert.ReferenceIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_tokens_in_range : Cert.Pre_tokens_in_range.Facts),
    quiescent_Kernel (hKernel := hKernel)
    ∧ quiescent_KernelIdeal (hKernelIdeal := hKernelIdeal)
    ∧ quiescent_KernelIdeal_pre_tokens_in_range (hKernelIdeal := hKernelIdeal) (hPre_tokens_in_range := hPre_tokens_in_range)
    ∧ quiescent_ReferenceIdeal (hReferenceIdeal := hReferenceIdeal)
    ∧ quiescent_ReferenceIdeal_pre_tokens_in_range (hReferenceIdeal := hReferenceIdeal) (hPre_tokens_in_range := hPre_tokens_in_range)
    ∧ preserves_Kernel_KernelIdeal
    ∧ algebraic_KernelIdeal_ReferenceIdeal_pre_tokens_in_range (hKernelIdeal := hKernelIdeal) (hReferenceIdeal := hReferenceIdeal) (hPre_tokens_in_range := hPre_tokens_in_range)
-- ==== Pre_tokens_in_range.lean ====
abbrev S4096x200x64 : Shape := ⟨3, ![4096, 200, 64]⟩
abbrev S4096x200x4 : Shape := ⟨3, ![4096, 200, 4]⟩
abbrev S4096x200x1 : Shape := ⟨3, ![4096, 200, 1]⟩
abbrev S13x64 : Shape := ⟨2, ![13, 64]⟩
abbrev S32x64 : Shape := ⟨2, ![32, 64]⟩
abbrev S7x64 : Shape := ⟨2, ![7, 64]⟩
abbrev S24x64 : Shape := ⟨2, ![24, 64]⟩
abbrev S2x64 : Shape := ⟨2, ![2, 64]⟩
abbrev S_ : Shape := ⟨0, ![]⟩

class Facts : Prop where
  bcast_S_S4096x200x4 : S_.BroadcastsInDim S4096x200x4 (![] : Fin 0 → Fin S4096x200x4.rank)
  reducesTo_S4096x200x4_S_d0_1_2 : S4096x200x4.ReducesTo [0, 1, 2] S_
  h_S_ : 0 < S_.numel
  bcast_S_S4096x200x1 : S_.BroadcastsInDim S4096x200x1 (![] : Fin 0 → Fin S4096x200x1.rank)
  reducesTo_S4096x200x1_S_d0_1_2 : S4096x200x1.ReducesTo [0, 1, 2] S_

variable [Facts]

def fn {F : FTy → Type} [FloatOps F] (main_arg0 : FVec F S4096x200x64 .f32) (main_arg1 : IVec S4096x200x4 32) (main_arg2 : IVec S4096x200x1 32) (main_arg3 : FVec F S13x64 .f32) (main_arg4 : FVec F S32x64 .f32) (main_arg5 : FVec F S7x64 .f32) (main_arg6 : FVec F S24x64 .f32) (main_arg7 : FVec F S2x64 .f32) : IVec S_ 1 :=
  let main_c : IVec S_ 32 := constantI S_ 32 0#32
  let main_v0 : IVec S4096x200x4 32 := broadcastInDim S4096x200x4 ![] bcast_S_S4096x200x4 main_c
  let main_v1 : IVec S4096x200x4 1 := cmpi .sge main_arg1 main_v0
  let main_c_0 : IVec S_ 32 := constantI S_ 32 7#32
  let main_v2 : IVec S4096x200x4 32 := broadcastInDim S4096x200x4 ![] bcast_S_S4096x200x4 main_c_0
  let main_v3 : IVec S4096x200x4 1 := cmpi .slt main_arg1 main_v2
  let main_v4 : IVec S4096x200x4 1 := andi main_v1 main_v3
  let main_c_1 : IVec S_ 1 := constantI S_ 1 1#1
  let main_v5 : IVec S_ 1 := (fun x v => Host.reduce IntOp.andi x v reducesTo_S4096x200x4_S_d0_1_2 h_S_) main_v4 main_c_1
  let main_c_2 : IVec S_ 32 := constantI S_ 32 0#32
  let main_v6 : IVec S4096x200x1 32 := broadcastInDim S4096x200x1 ![] bcast_S_S4096x200x1 main_c_2
  let main_v7 : IVec S4096x200x1 1 := cmpi .sge main_arg2 main_v6
  let main_c_3 : IVec S_ 32 := constantI S_ 32 2#32
  let main_v8 : IVec S4096x200x1 32 := broadcastInDim S4096x200x1 ![] bcast_S_S4096x200x1 main_c_3
  let main_v9 : IVec S4096x200x1 1 := cmpi .slt main_arg2 main_v8
  let main_v10 : IVec S4096x200x1 1 := andi main_v7 main_v9
  let main_c_4 : IVec S_ 1 := constantI S_ 1 1#1
  let main_v11 : IVec S_ 1 := (fun x v => Host.reduce IntOp.andi x v reducesTo_S4096x200x1_S_d0_1_2 h_S_) main_v10 main_c_4
  let main_v12 : IVec S_ 1 := andi main_v5 main_v11
  main_v12
-- ==== Kernel.lean ====
abbrev S4096x200x64 : Shape := ⟨3, ![4096, 200, 64]⟩
abbrev S4096x200x4 : Shape := ⟨3, ![4096, 200, 4]⟩
abbrev S4096x200x1 : Shape := ⟨3, ![4096, 200, 1]⟩
abbrev S13x64 : Shape := ⟨2, ![13, 64]⟩
abbrev S32x64 : Shape := ⟨2, ![32, 64]⟩
abbrev S7x64 : Shape := ⟨2, ![7, 64]⟩
abbrev S24x64 : Shape := ⟨2, ![24, 64]⟩
abbrev S2x64 : Shape := ⟨2, ![2, 64]⟩
abbrev S200x64x4096 : Shape := ⟨3, ![200, 64, 4096]⟩
abbrev S200x4x4096 : Shape := ⟨3, ![200, 4, 4096]⟩
abbrev S200x1x4096 : Shape := ⟨3, ![200, 1, 4096]⟩
abbrev S8x64x4096 : Shape := ⟨3, ![8, 64, 4096]⟩
abbrev S8x4x4096 : Shape := ⟨3, ![8, 4, 4096]⟩
abbrev S8x1x4096 : Shape := ⟨3, ![8, 1, 4096]⟩
abbrev S128x64 : Shape := ⟨2, ![128, 64]⟩
abbrev S1x64 : Shape := ⟨2, ![1, 64]⟩
abbrev S64 : Shape := ⟨1, ![64]⟩
abbrev S8x64 : Shape := ⟨2, ![8, 64]⟩
abbrev S1x4x4096 : Shape := ⟨3, ![1, 4, 4096]⟩
abbrev S4x4096 : Shape := ⟨2, ![4, 4096]⟩
abbrev S1x4096 : Shape := ⟨2, ![1, 4096]⟩
abbrev S1x1x4096 : Shape := ⟨3, ![1, 1, 4096]⟩
abbrev S56x4096 : Shape := ⟨2, ![56, 4096]⟩
abbrev S16x4096 : Shape := ⟨2, ![16, 4096]⟩
abbrev S128x4096 : Shape := ⟨2, ![128, 4096]⟩
abbrev S64x4096 : Shape := ⟨2, ![64, 4096]⟩
abbrev S1x64x4096 : Shape := ⟨3, ![1, 64, 4096]⟩

abbrev nBuf : Space → Nat
  | .hbm => 13
  | .vmem => 14
  | .smem => 0
  | _ => 0

abbrev bufTy : (tb : Table) → Fin (tcTables nBuf tb) → BufTy
  | .hbm, ⟨0, _⟩ => ⟨S4096x200x64, .f32⟩
  | .hbm, ⟨1, _⟩ => ⟨S4096x200x4, .i32⟩
  | .hbm, ⟨2, _⟩ => ⟨S4096x200x1, .i32⟩
  | .hbm, ⟨3, _⟩ => ⟨S13x64, .f32⟩
  | .hbm, ⟨4, _⟩ => ⟨S32x64, .f32⟩
  | .hbm, ⟨5, _⟩ => ⟨S7x64, .f32⟩
  | .hbm, ⟨6, _⟩ => ⟨S24x64, .f32⟩
  | .hbm, ⟨7, _⟩ => ⟨S2x64, .f32⟩
  | .hbm, ⟨8, _⟩ => ⟨S200x64x4096, .f32⟩
  | .hbm, ⟨9, _⟩ => ⟨S200x4x4096, .i32⟩
  | .hbm, ⟨10, _⟩ => ⟨S200x1x4096, .i32⟩
  | .hbm, ⟨11, _⟩ => ⟨S200x64x4096, .f32⟩
  | .hbm, ⟨12, _⟩ => ⟨S4096x200x64, .f32⟩
  | .local _ .vmem, ⟨0, _⟩ => ⟨S8x64x4096, .f32⟩
  | .local _ .vmem, ⟨1, _⟩ => ⟨S8x64x4096, .f32⟩
  | .local _ .vmem, ⟨2, _⟩ => ⟨S8x4x4096, .i32⟩
  | .local _ .vmem, ⟨3, _⟩ => ⟨S8x4x4096, .i32⟩
  | .local _ .vmem, ⟨4, _⟩ => ⟨S8x1x4096, .i32⟩
  | .local _ .vmem, ⟨5, _⟩ => ⟨S8x1x4096, .i32⟩
  | .local _ .vmem, ⟨6, _⟩ => ⟨S13x64, .f32⟩
  | .local _ .vmem, ⟨7, _⟩ => ⟨S32x64, .f32⟩
  | .local _ .vmem, ⟨8, _⟩ => ⟨S7x64, .f32⟩
  | .local _ .vmem, ⟨9, _⟩ => ⟨S24x64, .f32⟩
  | .local _ .vmem, ⟨10, _⟩ => ⟨S2x64, .f32⟩
  | .local _ .vmem, ⟨11, _⟩ => ⟨S8x64x4096, .f32⟩
  | .local _ .vmem, ⟨12, _⟩ => ⟨S8x64x4096, .f32⟩
  | .local _ .vmem, ⟨13, _⟩ => ⟨S128x64, .bf16⟩
  | _, _ => ⟨S4096x200x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S13x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S7x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S24x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4096x200x64 : Shape := ⟨3, ![4096, 200, 64]⟩
abbrev S4096x200x4 : Shape := ⟨3, ![4096, 200, 4]⟩
abbrev S4096x200x1 : Shape := ⟨3, ![4096, 200, 1]⟩
abbrev S13x64 : Shape := ⟨2, ![13, 64]⟩
abbrev S32x64 : Shape := ⟨2, ![32, 64]⟩
abbrev S7x64 : Shape := ⟨2, ![7, 64]⟩
abbrev S24x64 : Shape := ⟨2, ![24, 64]⟩
abbrev S2x64 : Shape := ⟨2, ![2, 64]⟩
abbrev S4096x200 : Shape := ⟨2, ![4096, 200]⟩
abbrev S_ : Shape := ⟨0, ![]⟩
abbrev S1 : Shape := ⟨1, ![1]⟩
abbrev S1x1x1 : Shape := ⟨3, ![1, 1, 1]⟩
abbrev S1x4096x200x64 : Shape := ⟨4, ![1, 4096, 200, 64]⟩
abbrev S4x4096x200x64 : Shape := ⟨4, ![4, 4096, 200, 64]⟩

abbrev nBuf : Space → Nat
  | .hbm => 141
  | .vmem => 0
  | .smem => 0
  | _ => 0

abbrev hbmTy0_0 (i : Nat) : BufTy := match i % 128 with
  | 0 => ⟨S4096x200x64, .f32⟩
  | 1 => ⟨S4096x200x4, .i32⟩
  | 2 => ⟨S4096x200x1, .i32⟩
  | 3 => ⟨S13x64, .f32⟩
  | 4 => ⟨S32x64, .f32⟩
  | 5 => ⟨S7x64, .f32⟩
  | 6 => ⟨S24x64, .f32⟩
  | 7 => ⟨S2x64, .f32⟩
  | 8 => ⟨S4096x200x1, .i32⟩
  | 9 => ⟨S4096x200, .i32⟩
  | 10 => ⟨S_, .i32⟩
  | 11 => ⟨S4096x200, .i32⟩
  | 12 => ⟨S4096x200, .i1⟩
  | 13 => ⟨S_, .i32⟩
  | 14 => ⟨S4096x200, .i32⟩
  | 15 => ⟨S4096x200, .i32⟩
  | 16 => ⟨S4096x200, .i32⟩
  | 17 => ⟨S4096x200x1, .i32⟩
  | 18 => ⟨S1, .i32⟩
  | 19 => ⟨S_, .i32⟩
  | 20 => ⟨S4096x200x1, .i32⟩
  | 21 => ⟨S4096x200x1, .i1⟩
  | 22 => ⟨S1x1x1, .i32⟩
  | 23 => ⟨S4096x200x1, .i32⟩
  | 24 => ⟨S4096x200x1, .i1⟩
  | 25 => ⟨S4096x200x1, .i1⟩
  | 26 => ⟨S_, .i1⟩
  | 27 => ⟨S4096x200, .i1⟩
  | 28 => ⟨S4096x200x64, .f32⟩
  | 29 => ⟨S4096x200x64, .i1⟩
  | 30 => ⟨S_, .f32⟩
  | 31 => ⟨S4096x200x64, .f32⟩
  | 32 => ⟨S4096x200x64, .f32⟩
  | 33 => ⟨S4096x200x1, .i32⟩
  | 34 => ⟨S4096x200, .i32⟩
  | 35 => ⟨S_, .i32⟩
  | 36 => ⟨S4096x200, .i32⟩
  | 37 => ⟨S4096x200, .i1⟩
  | 38 => ⟨S_, .i32⟩
  | 39 => ⟨S4096x200, .i32⟩
  | 40 => ⟨S4096x200, .i32⟩
  | 41 => ⟨S4096x200, .i32⟩
  | 42 => ⟨S4096x200x1, .i32⟩
  | 43 => ⟨S1, .i32⟩
  | 44 => ⟨S_, .i32⟩
  | 45 => ⟨S4096x200x1, .i32⟩
  | 46 => ⟨S4096x200x1, .i1⟩
  | 47 => ⟨S1x1x1, .i32⟩
  | 48 => ⟨S4096x200x1, .i32⟩
  | 49 => ⟨S4096x200x1, .i1⟩
  | 50 => ⟨S4096x200x1, .i1⟩
  | 51 => ⟨S_, .i1⟩
  | 52 => ⟨S4096x200, .i1⟩
  | 53 => ⟨S4096x200x64, .f32⟩
  | 54 => ⟨S4096x200x64, .i1⟩
  | 55 => ⟨S_, .f32⟩
  | 56 => ⟨S4096x200x64, .f32⟩
  | 57 => ⟨S4096x200x64, .f32⟩
  | 58 => ⟨S4096x200x1, .i32⟩
  | 59 => ⟨S4096x200, .i32⟩
  | 60 => ⟨S_, .i32⟩
  | 61 => ⟨S4096x200, .i32⟩
  | 62 => ⟨S4096x200, .i1⟩
  | 63 => ⟨S_, .i32⟩
  | 64 => ⟨S4096x200, .i32⟩
  | 65 => ⟨S4096x200, .i32⟩
  | 66 => ⟨S4096x200, .i32⟩
  | 67 => ⟨S4096x200x1, .i32⟩
  | 68 => ⟨S1, .i32⟩
  | 69 => ⟨S_, .i32⟩
  | 70 => ⟨S4096x200x1, .i32⟩
  | 71 => ⟨S4096x200x1, .i1⟩
  | 72 => ⟨S1x1x1, .i32⟩
  | 73 => ⟨S4096x200x1, .i32⟩
  | 74 => ⟨S4096x200x1, .i1⟩
  | 75 => ⟨S4096x200x1, .i1⟩
  | 76 => ⟨S_, .i1⟩
  | 77 => ⟨S4096x200, .i1⟩
  | 78 => ⟨S4096x200x64, .f32⟩
  | 79 => ⟨S4096x200x64, .i1⟩
  | 80 => ⟨S_, .f32⟩
  | 81 => ⟨S4096x200x64, .f32⟩
  | 82 => ⟨S4096x200x64, .f32⟩
  | 83 => ⟨S4096x200x1, .i32⟩
  | 84 => ⟨S4096x200, .i32⟩
  | 85 => ⟨S_, .i32⟩
  | 86 => ⟨S4096x200, .i32⟩
  | 87 => ⟨S4096x200, .i1⟩
  | 88 => ⟨S_, .i32⟩
  | 89 => ⟨S4096x200, .i32⟩
  | 90 => ⟨S4096x200, .i32⟩
  | 91 => ⟨S4096x200, .i32⟩
  | 92 => ⟨S4096x200x1, .i32⟩
  | 93 => ⟨S1, .i32⟩
  | 94 => ⟨S_, .i32⟩
  | 95 => ⟨S4096x200x1, .i32⟩
  | 96 => ⟨S4096x200x1, .i1⟩
  | 97 => ⟨S1x1x1, .i32⟩
  | 98 => ⟨S4096x200x1, .i32⟩
  | 99 => ⟨S4096x200x1, .i1⟩
  | 100 => ⟨S4096x200x1, .i1⟩
  | 101 => ⟨S_, .i1⟩
  | 102 => ⟨S4096x200, .i1⟩
  | 103 => ⟨S4096x200x64, .f32⟩
  | 104 => ⟨S4096x200x64, .i1⟩
  | 105 => ⟨S_, .f32⟩
  | 106 => ⟨S4096x200x64, .f32⟩
  | 107 => ⟨S4096x200x64, .f32⟩
  | 108 => ⟨S1x4096x200x64, .f32⟩
  | 109 => ⟨S1x4096x200x64, .f32⟩
  | 110 => ⟨S1x4096x200x64, .f32⟩
  | 111 => ⟨S1x4096x200x64, .f32⟩
  | 112 => ⟨S4x4096x200x64, .f32⟩
  | 113 => ⟨S_, .f32⟩
  | 114 => ⟨S4096x200x64, .f32⟩
  | 115 => ⟨S4096x200, .i32⟩
  | 116 => ⟨S_, .i32⟩
  | 117 => ⟨S4096x200, .i32⟩
  | 118 => ⟨S4096x200, .i1⟩
  | 119 => ⟨S_, .i32⟩
  | 120 => ⟨S4096x200, .i32⟩
  | 121 => ⟨S4096x200, .i32⟩
  | 122 => ⟨S4096x200, .i32⟩
  | 123 => ⟨S4096x200x1, .i32⟩
  | 124 => ⟨S1, .i32⟩
  | 125 => ⟨S_, .i32⟩
  | 126 => ⟨S4096x200x1, .i32⟩
  | 127 => ⟨S4096x200x1, .i1⟩
  | _ => ⟨S4096x200x64, .f32⟩

abbrev hbmTy0_1 (i : Nat) : BufTy := match i % 128 with
  | 0 => ⟨S1x1x1, .i32⟩
  | 1 => ⟨S4096x200x1, .i32⟩
  | 2 => ⟨S4096x200x1, .i1⟩
  | 3 => ⟨S4096x200x1, .i1⟩
  | 4 => ⟨S_, .i1⟩
  | 5 => ⟨S4096x200, .i1⟩
  | 6 => ⟨S4096x200x64, .f32⟩
  | 7 => ⟨S4096x200x64, .i1⟩
  | 8 => ⟨S_, .f32⟩
  | 9 => ⟨S4096x200x64, .f32⟩
  | 10 => ⟨S4096x200x64, .f32⟩
  | 11 => ⟨S4096x200x64, .f32⟩
  | 12 => ⟨S4096x200x64, .f32⟩
  | _ => ⟨S4096x200x64, .f32⟩

abbrev hbmTy (i : Nat) : BufTy := match i / 128 with
  | 0 => hbmTy0_0 i
  | 1 => hbmTy0_1 i
  | _ => ⟨S4096x200x64, .f32⟩

abbrev bufTy : (tb : Table) → Fin (tcTables nBuf tb) → BufTy
  | .hbm, ⟨i, _⟩ => hbmTy i
  | _, _ => ⟨S4096x200x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v8 : Ref sig .tc := ⟨.hbm, 82, rfl⟩
abbrev main_v9 : Ref sig .tc := ⟨.hbm, 83, rfl⟩
abbrev main_v10 : Ref sig .tc := ⟨.hbm, 84, rfl⟩
abbrev main_call3_c : Ref sig .tc := ⟨.hbm, 85, rfl⟩
abbrev main_call3_v0 : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_c_1 : Ref sig .tc := ⟨.hbm, 93, rfl⟩
abbrev main_call3_c_2 : Ref sig .tc := ⟨.hbm, 94, rfl⟩
abbrev main_call3_v6 : Ref sig .tc := ⟨.hbm, 95, rfl⟩
abbrev main_call3_v7 : Ref sig .tc := ⟨.hbm, 96, rfl⟩
abbrev main_call3_v8 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_c_3 : Ref sig .tc := ⟨.hbm, 101, rfl⟩
abbrev main_call3_v12 : Ref sig .tc := ⟨.hbm, 102, rfl⟩
abbrev main_call3_v13 : Ref sig .tc := ⟨.hbm, 103, rfl⟩
abbrev main_call3_v14 : Ref sig .tc := ⟨.hbm, 104, rfl⟩
abbrev main_call3_cst : Ref sig .tc := ⟨.hbm, 105, rfl⟩
abbrev main_call3_v15 : Ref sig .tc := ⟨.hbm, 106, rfl⟩
abbrev main_v11 : Ref sig .tc := ⟨.hbm, 107, rfl⟩
abbrev main_v12 : Ref sig .tc := ⟨.hbm, 108, rfl⟩
abbrev main_v13 : Ref sig .tc := ⟨.hbm, 109, rfl⟩
abbrev main_v14 : Ref sig .tc := ⟨.hbm, 110, rfl⟩
abbrev main_v15 : Ref sig .tc := ⟨.hbm, 111, rfl⟩
abbrev main_v16 : Ref sig .tc := ⟨.hbm, 112, rfl⟩
abbrev main_cst : Ref sig .tc := ⟨.hbm, 113, rfl⟩
abbrev main_v17 : Ref sig .tc := ⟨.hbm, 114, rfl⟩
abbrev main_v18 : Ref sig .tc := ⟨.hbm, 115, rfl⟩
abbrev main_call4_c : Ref sig .tc := ⟨.hbm, 116, rfl⟩
abbrev main_call4_v0 : Ref sig .tc := ⟨.hbm, 117, rfl⟩
abbrev main_call4_v1 : Ref sig .tc := ⟨.hbm, 118, rfl⟩
abbrev main_call4_c_0 : Ref sig .tc := ⟨.hbm, 119, rfl⟩
abbrev main_call4_v2 : Ref sig .tc := ⟨.hbm, 120, rfl⟩
abbrev main_call4_v3 : Ref sig .tc := ⟨.hbm, 121, rfl⟩
abbrev main_call4_v4 : Ref sig .tc := ⟨.hbm, 122, rfl⟩
abbrev main_call4_v5 : Ref sig .tc := ⟨.hbm, 123, rfl⟩
abbrev main_call4_c_1 : Ref sig .tc := ⟨.hbm, 124, rfl⟩
abbrev main_call4_c_2 : Ref sig .tc := ⟨.hbm, 125, rfl⟩
abbrev main_call4_v6 : Ref sig .tc := ⟨.hbm, 126, rfl⟩
abbrev main_call4_v7 : Ref sig .tc := ⟨.hbm, 127, rfl⟩
abbrev main_call4_v8 : Ref sig .tc := ⟨.hbm, 128, rfl⟩
abbrev main_call4_v9 : Ref sig .tc := ⟨.hbm, 129, rfl⟩
abbrev main_call4_v10 : Ref sig .tc := ⟨.hbm, 130, rfl⟩
abbrev main_call4_v11 : Ref sig .tc := ⟨.hbm, 131, rfl⟩
abbrev main_call4_c_3 : Ref sig .tc := ⟨.hbm, 132, rfl⟩
abbrev main_call4_v12 : Ref sig .tc := ⟨.hbm, 133, rfl⟩
abbrev main_call4_v13 : Ref sig .tc := ⟨.hbm, 134, rfl⟩
abbrev main_call4_v14 : Ref sig .tc := ⟨.hbm, 135, rfl⟩
abbrev main_call4_cst : Ref sig .tc := ⟨.hbm, 136, rfl⟩
abbrev main_call4_v15 : Ref sig .tc := ⟨.hbm, 137, rfl⟩
abbrev main_v19 : Ref sig .tc := ⟨.hbm, 138, rfl⟩
abbrev main_v20 : Ref sig .tc := ⟨.hbm, 139, rfl⟩
abbrev main_v21 : Ref sig .tc := ⟨.hbm, 140, rfl⟩

abbrev nD : Nat := 1
abbrev τ : Topo := Topo.v7x

variable {F : FTy → Type} [FloatOps F]
-- ==== Proof.KernelIdeal.Runs.lean ====
/- The first point is the one whose scratch-building branch runs; the names of the staging memrefs and of the scratch. -/
module

public import proofs.«01_k».proof.Proof.Gen.KernelIdeal.Frame
public import proofs.«01_k».proof.Proof.Gen.KernelIdeal.Skeleton

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [cond0_0, e0]
    word_cmp
   : ∀ t : Fin grid0.N, cond0_0 (grid0.coords t) ↔ t.val % 25 = 0)

/-! ## The kernel body on any staging memrefs: a subtype the run finds -/

/-- One staging buffer of output window 8, through which its contents are stated (`View.read_writes_of_cover`: the
    choice does not matter). -/
abbrev VO0_8 : View sig .tc .vmem S8x64x4096 .f32 := (Memref.whole cc0_stg8_0 : Memref sig .tc .vmem S8x64x4096 .f32).view
/-- Each window's current staging memref at point `t`, spelled as the pipeline passes it (`bodyAt0`), and its wholeness. -/
abbrev ms0_0 (t : Fin cfg0.N) : Memref sig .tc .vmem S8x64x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x4x4096 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x1x4096 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S13x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S7x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S24x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x64x4096 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S128x64 .bf16 := Memref.whole cc0_scratch0
/-- The scratch `arg10` the kernel carries between points, as a view: what it holds is stated through it. -/
abbrev VS0_0 : View sig .tc .vmem S128x64 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.KernelIdeal.Build.lean ====
/- The first grid point builds the combined table in the scratch. -/
module

public import proofs.«01_k».proof.Proof.KernelIdeal.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The row that the body's first part returns for output row 0, from the combined table `xs` and the staged blocks. -/
abbrev firstRow (arg1 : Memref sig .tc .vmem S8x64x4096 .f32) (harg1 : arg1.IsWhole) (arg2 : Memref sig .tc .vmem S8x4x4096 .i32) (harg2 : arg2.IsWhole) (arg3 : Memref sig .tc .vmem S8x1x4096 .i32) (harg3 : arg3.IsWhole) (arg4 : Memref sig .tc .vmem S13x64 .f32) (harg4 : arg4.IsWhole) (arg5 : Memref sig .tc .vmem S32x64 .f32) (harg5 : arg5.IsWhole) (arg6 : Memref sig .tc .vmem S7x64 .f32) (harg6 : arg6.IsWhole) (arg7 : Memref sig .tc .vmem S24x64 .f32) (harg7 : arg7.IsWhole) (arg8 : Memref sig .tc .vmem S2x64 .f32) (harg8 : arg8.IsWhole) (arg9 : Memref sig .tc .vmem S8x64x4096 .f32) (harg9 : arg9.IsWhole) (arg10 : Memref sig .tc .vmem S128x64 .bf16) (harg10 : arg10.IsWhole) (xs : Vec F S128x64 .bf16) (x0 : Vec F S8x64x4096 .f32) (x1 : Vec F S8x4x4096 .i32) (x2 : Vec F S8x1x4096 .i32) : FVec F S64x4096 .f32 :=
  k0_pay20 xs (arg2.view.readAt (Elt F) (Rect.unit (s := S8x4x4096) ![0, 0, 0] S1x4x4096.size inb_S8x4x4096_S1x4x4096_0_0_0).toLoadRect (harg2.unread x1)) (arg3.view.readAt (Elt F) (Rect.unit (s := S8x1x4096) ![0, 0, 0] S1x1x4096.size inb_S8x1x4096_S1x1x4096_0_0_0).toLoadRect (harg3.unread x2)) (arg1.view.readAt (Elt F) (Rect.unit (s := S8x64x4096) ![0, 0, 0] S1x64x4096.size inb_S8x64x4096_S1x64x4096_0_0_0).toLoadRect (harg1.unread x0))

/-- What a load of the whole scratch reads once the pieces `L` have been stored there. -/
abbrev tabRead (arg10 : Memref sig .tc .vmem S128x64 .bf16) (L : List (View.Piece (Elt F) S128x64 .bf16)) : Vec F S128x64 .bf16 :=
  arg10.view.readAt (Elt F) (Rect.unit (s := S128x64) ![0, 0] S128x64.size inb_S128x64_S128x64_0_0).toLoadRect (arg10.view.writes (Elt F) arg10.view.junk L)

set_option maxHeartbeats 1000000 in
/-- The body's first part at the first point: it builds the combined table in the scratch. The pieces its stores leave
    there are the witness; the part returns what the scratch then reads, and the row computed from it. -/
noncomputable def buildRun (c : Dev nD) (i : grid0.Coords) (arg1 : Memref sig .tc .vmem S8x64x4096 .f32) (harg1 : arg1.IsWhole) (arg2 : Memref sig .tc .vmem S8x4x4096 .i32) (harg2 : arg2.IsWhole) (arg3 : Memref sig .tc .vmem S8x1x4096 .i32) (harg3 : arg3.IsWhole) (arg4 : Memref sig .tc .vmem S13x64 .f32) (harg4 : arg4.IsWhole) (arg5 : Memref sig .tc .vmem S32x64 .f32) (harg5 : arg5.IsWhole) (arg6 : Memref sig .tc .vmem S7x64 .f32) (harg6 : arg6.IsWhole) (arg7 : Memref sig .tc .vmem S24x64 .f32) (harg7 : arg7.IsWhole) (arg8 : Memref sig .tc .vmem S2x64 .f32) (harg8 : arg8.IsWhole) (arg9 : Memref sig .tc .vmem S8x64x4096 .f32) (harg9 : arg9.IsWhole) (arg10 : Memref sig .tc .vmem S128x64 .bf16) (harg10 : arg10.IsWhole) (hc0 : cond0_0 i) (x0 : Vec F S8x64x4096 .f32) (x1 : Vec F S8x4x4096 .i32) (x2 : Vec F S8x1x4096 .i32) (x3 : Vec F S13x64 .f32) (x4 : Vec F S32x64 .f32) (x5 : Vec F S7x64 .f32) (x6 : Vec F S24x64 .f32) (x7 : Vec F S2x64 .f32) :
    Σ' (tab : Vec F S128x64 .bf16), { LS0 : List (View.Piece (Elt F) S128x64 .bf16) // tab = tabRead arg10 LS0 ∧
      ∀ (E : Set ℕ) (K : (Σ' (_ : Vec F S128x64 .bf16), FVec F S64x4096 .f32) → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg10.view.loc (c : Thread nD τ) ↦[arg10.view.set]{fullShare} arg10.view.writes (Elt F) f LS0)) -∗ K ⟨tab, firstRow arg1 harg1 arg2 harg2 arg3 harg3 arg4 harg4 arg5 harg5 arg6 harg6 arg7 harg7 arg8 harg8 arg9 harg9 arg10 harg10 tab x0 x1 x2⟩))
          ⊢ wp frame (wpE (defs₀ (F := F)) Variants.none c none) E (k0_part5 i arg1 harg1 arg2 harg2 arg3 harg3 arg4 harg4 arg5 harg5 arg6 harg6 arg7 harg7 arg8 harg8 arg9 harg9 arg10 harg10) K } := by
  refine ⟨?_, ?_, ?eq, fun E K => ?run⟩
  case run =>
    simp only [k0_part5_eq_skeleton, k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS0
  case eq => rfl

end Cert.KernelIdeal.Gen

end
-- ==== Proof.KernelIdeal.Rows.lean ====
/- The rest of the kernel body: eight rows of output from the combined table. -/
module

public import proofs.«01_k».proof.Proof.KernelIdeal.Build
public import Idealize.ShloMosaic.Lib.VecWindow

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body after its first part: from the combined table `v3` and the row `v39` of the first part, the eight rows of
    the output block are computed and stored. -/
noncomputable def restProg (i : grid0.Coords) (arg1 : Memref sig .tc .vmem S8x64x4096 .f32) (harg1 : arg1.IsWhole) (arg2 : Memref sig .tc .vmem S8x4x4096 .i32) (harg2 : arg2.IsWhole) (arg3 : Memref sig .tc .vmem S8x1x4096 .i32) (harg3 : arg3.IsWhole) (arg4 : Memref sig .tc .vmem S13x64 .f32) (harg4 : arg4.IsWhole) (arg5 : Memref sig .tc .vmem S32x64 .f32) (harg5 : arg5.IsWhole) (arg6 : Memref sig .tc .vmem S7x64 .f32) (harg6 : arg6.IsWhole) (arg7 : Memref sig .tc .vmem S24x64 .f32) (harg7 : arg7.IsWhole) (arg8 : Memref sig .tc .vmem S2x64 .f32) (harg8 : arg8.IsWhole) (arg9 : Memref sig .tc .vmem S8x64x4096 .f32) (harg9 : arg9.IsWhole) (arg10 : Memref sig .tc .vmem S128x64 .bf16) (harg10 : arg10.IsWhole) (v3 : Vec F S128x64 .bf16) (v39 : FVec F S64x4096 .f32) :
    Prog (TpuEff nD τ sig (Elt F) Λ₀ .tc) PUnit := do
  k0_part6 i arg1 harg1 arg2 harg2 arg3 harg3 arg4 harg4 arg5 harg5 arg6 harg6 arg7 harg7 arg8 harg8 arg9 harg9 arg10 harg10 v3 v39
  let v122 : IVec S4x4096 32 ← k0_part7 i arg1 harg1 arg2 harg2 arg3 harg3 arg4 harg4 arg5 harg5 arg6 harg6 arg7 harg7 arg8 harg8 arg9 harg9 arg10 harg10 v3
  let ⟨v161, v164, v165⟩ : Σ' (v161 : IVec S4x4096 32) (v164 : IVec S1x4096 32), IVec S1x4096 32 ← k0_part8 i arg1 harg1 arg2 harg2 arg3 harg3 arg4 harg4 arg5 harg5 arg6 harg6 arg7 harg7 arg8 harg8 arg9 harg9 arg10 harg10 v3 v122
  let ⟨v200, v205, v208⟩ : Σ' (v200 : IVec S4x4096 32) (v205 : IVec S1x4096 32), IVec S1x4096 32 ← k0_part9 i arg1 harg1 arg2 harg2 arg3 harg3 arg4 harg4 arg5 harg5 arg6 harg6 arg7 harg7 arg8 harg8 arg9 harg9 arg10 harg10 v3 v161 v164 v165
  let ⟨v244, v249⟩ : Σ' (v244 : IVec S1x4096 32), IVec S1x4096 32 ← k0_part10 i arg1 harg1 arg2 harg2 arg3 harg3 arg4 harg4 arg5 harg5 arg6 harg6 arg7 harg7 arg8 harg8 arg9 harg9 arg10 harg10 v3 v200 v205 v208
  let ⟨v288, v290, v291, v292, v293⟩ : Σ' (v288 : IVec S1x4096 32) (v290 : IVec S1x4096 32) (v291 : IVec S56x4096 32) (v292 : IVec S16x4096 32), IVec S56x4096 32 ← k0_part11 i arg1 harg1 arg2 harg2 arg3 harg3 arg4 harg4 arg5 harg5 arg6 harg6 arg7 harg7 arg8 harg8 arg9 harg9 arg10 harg10 v3 v244 v249
  let v310 : Vec F S1x64x4096 .f32 ← Prog.lift (.load arg1 (Rect.unit (s := S8x64x4096) ![7, 0, 0] S1x64x4096.size inb_S8x64x4096_S1x64x4096_7_0_0).toLoadRect (View.loadsAt_vmem h_S1x64x4096))
  let v313 : Vec F S1x64x4096 .f32 ← Prog.lift (.load arg9 (Rect.unit (s := S8x64x4096) ![7, 0, 0] S1x64x4096.size inb_S8x64x4096_S1x64x4096_7_0_0).toLoadRect (View.loadsAt_vmem h_S1x64x4096))
  Prog.lift (.store arg9 (Rect.unit (s := S8x64x4096) ![7, 0, 0] S1x64x4096.size inb_S8x64x4096_S1x64x4096_7_0_0) (k0_pay1 v3 v288 v290 v291 v292 v293 v310) Finset.univ (View.stores_vmem_bits_univ h_S1x64x4096 rfl) (.inl rfl))
  pure ⟨⟩

/-- The body is its first part and then the rest. -/
theorem body_eq_rest (i : grid0.Coords) (arg1 : Memref sig .tc .vmem S8x64x4096 .f32) (harg1 : arg1.IsWhole) (arg2 : Memref sig .tc .vmem S8x4x4096 .i32) (harg2 : arg2.IsWhole) (arg3 : Memref sig .tc .vmem S8x1x4096 .i32) (harg3 : arg3.IsWhole) (arg4 : Memref sig .tc .vmem S13x64 .f32) (harg4 : arg4.IsWhole) (arg5 : Memref sig .tc .vmem S32x64 .f32) (harg5 : arg5.IsWhole) (arg6 : Memref sig .tc .vmem S7x64 .f32) (harg6 : arg6.IsWhole) (arg7 : Memref sig .tc .vmem S24x64 .f32) (harg7 : arg7.IsWhole) (arg8 : Memref sig .tc .vmem S2x64 .f32) (harg8 : arg8.IsWhole) (arg9 : Memref sig .tc .vmem S8x64x4096 .f32) (harg9 : arg9.IsWhole) (arg10 : Memref sig .tc .vmem S128x64 .bf16) (harg10 : arg10.IsWhole) :
    cc0__body (F := F) i arg1 harg1 arg2 harg2 arg3 harg3 arg4 harg4 arg5 harg5 arg6 harg6 arg7 harg7 arg8 harg8 arg9 harg9 arg10 harg10 = (k0_part5 i arg1 harg1 arg2 harg2 arg3 harg3 arg4 harg4 arg5 harg5 arg6 harg6 arg7 harg7 arg8 harg8 arg9 harg9 arg10 harg10 >>= fun x => restProg i arg1 harg1 arg2 harg2 arg3 harg3 arg4 harg4 arg5 harg5 arg6 harg6 arg7 harg7 arg8 harg8 arg9 harg9 arg10 harg10 x.1 x.2) := by
  simp only [cc0__body_eq_skeleton]; rfl

set_option maxHeartbeats 1000000 in
/-- The body's first part at a later point: the scratch holds the table `t` already, and the part only reads. -/
theorem laterRun (c : Dev nD) (i : grid0.Coords) (arg1 : Memref sig .tc .vmem S8x64x4096 .f32) (harg1 : arg1.IsWhole) (arg2 : Memref sig .tc .vmem S8x4x4096 .i32) (harg2 : arg2.IsWhole) (arg3 : Memref sig .tc .vmem S8x1x4096 .i32) (harg3 : arg3.IsWhole) (arg4 : Memref sig .tc .vmem S13x64 .f32) (harg4 : arg4.IsWhole) (arg5 : Memref sig .tc .vmem S32x64 .f32) (harg5 : arg5.IsWhole) (arg6 : Memref sig .tc .vmem S7x64 .f32) (harg6 : arg6.IsWhole) (arg7 : Memref sig .tc .vmem S24x64 .f32) (harg7 : arg7.IsWhole) (arg8 : Memref sig .tc .vmem S2x64 .f32) (harg8 : arg8.IsWhole) (arg9 : Memref sig .tc .vmem S8x64x4096 .f32) (harg9 : arg9.IsWhole) (arg10 : Memref sig .tc .vmem S128x64 .bf16) (harg10 : arg10.IsWhole) (hc0 : ¬cond0_0 i) (x0 : Vec F S8x64x4096 .f32) (x1 : Vec F S8x4x4096 .i32) (x2 : Vec F S8x1x4096 .i32) (x3 : Vec F S13x64 .f32) (x4 : Vec F S32x64 .f32) (x5 : Vec F S7x64 .f32) (x6 : Vec F S24x64 .f32) (x7 : Vec F S2x64 .f32) (t : Vec F S128x64 .bf16)
    (E : Set ℕ) (K : (Σ' (_ : Vec F S128x64 .bf16), FVec F S64x4096 .f32) → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg10 fullShare t
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg10 fullShare t) -∗ K ⟨t, firstRow arg1 harg1 arg2 harg2 arg3 harg3 arg4 harg4 arg5 harg5 arg6 harg6 arg7 harg7 arg8 harg8 arg9 harg9 arg10 harg10 t x0 x1 x2⟩))
      ⊢ wp frame (wpE (defs₀ (F := F)) Variants.none c none) E (k0_part5 i arg1 harg1 arg2 harg2 arg3 harg3 arg4 harg4 arg5 harg5 arg6 harg6 arg7 harg7 arg8 harg8 arg9 harg9 arg10 harg10) K := by
  simp only [k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ft, %hft, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hft
  sl_exec (disch := first | sl_exact hc0)
  sl_step
  rw [View.readAt_full, harg10.read_unread]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  iexists _; isplitr; · ipureintro; exact harg10.read_unread _
  iexact HS0

set_option maxHeartbeats 1000000 in
/-- The rest of the body, from a table `t` and a first row `v39`: the pieces its eight stores leave in the output block
    are the witness. -/
noncomputable def restRun (c : Dev nD) (i : grid0.Coords) (arg1 : Memref sig .tc .vmem S8x64x4096 .f32) (harg1 : arg1.IsWhole) (arg2 : Memref sig .tc .vmem S8x4x4096 .i32) (harg2 : arg2.IsWhole) (arg3 : Memref sig .tc .vmem S8x1x4096 .i32) (harg3 : arg3.IsWhole) (arg4 : Memref sig .tc .vmem S13x64 .f32) (harg4 : arg4.IsWhole) (arg5 : Memref sig .tc .vmem S32x64 .f32) (harg5 : arg5.IsWhole) (arg6 : Memref sig .tc .vmem S7x64 .f32) (harg6 : arg6.IsWhole) (arg7 : Memref sig .tc .vmem S24x64 .f32) (harg7 : arg7.IsWhole) (arg8 : Memref sig .tc .vmem S2x64 .f32) (harg8 : arg8.IsWhole) (arg9 : Memref sig .tc .vmem S8x64x4096 .f32) (harg9 : arg9.IsWhole) (arg10 : Memref sig .tc .vmem S128x64 .bf16) (harg10 : arg10.IsWhole) (x0 : Vec F S8x64x4096 .f32) (x1 : Vec F S8x4x4096 .i32) (x2 : Vec F S8x1x4096 .i32) (t : Vec F S128x64 .bf16) (v39 : FVec F S64x4096 .f32) :
    { L8 : List (View.Piece (Elt F) S8x64x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ (∃ f, arg9.view.loc (c : Thread nD τ) ↦[arg9.view.set]{fullShare} arg9.view.writes (Elt F) f L8)) -∗ K ⟨⟩))
          ⊢ wp frame (wpE (defs₀ (F := F)) Variants.none c none) E (restProg i arg1 harg1 arg2 harg2 arg3 harg3 arg4 harg4 arg5 harg5 arg6 harg6 arg7 harg7 arg8 harg8 arg9 harg9 arg10 harg10 t v39) K } := by
  refine ⟨?_, fun E K => ?run⟩
  case run =>
    unfold restProg
    simp only [k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%d8, %f8, -, H8⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H8

end Cert.KernelIdeal.Gen

end
-- ==== Proof.KernelIdeal.Frame.lean ====
/- The frame of the kernel: the proof data of its pipeline, the body obligation at a generic point, and the run. -/
module

public import proofs.«01_k».proof.Proof.KernelIdeal.Rows
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
abbrev t0 : Fin cfg0.N := ⟨0, by rw [show cfg0.N = 25 from N_0]; decide⟩

/-- The combined table that the first point builds: what its stores leave in the scratch. -/
def tabM (c : Dev nD) : Vec F S128x64 .bf16 :=
  (buildRun c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) scM0_0 (Memref.isWhole_whole _) ((hcond0_0 t0).mpr rfl) (iblk m c 0 t0) (iblk m c 1 t0) (iblk m c 2 t0) (iblk m c 3 t0) (iblk m c 4 t0) (iblk m c 5 t0) (iblk m c 6 t0) (iblk m c 7 t0)).1

/-- The output block that point `t` leaves: the rest of the body over that table. -/
def outM (c : Dev nD) (t : Fin cfg0.N) : Vec F S8x64x4096 .f32 :=
  VO0_8.read (Elt F) (VO0_8.writes (Elt F) VO0_8.junk (restRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (tabM m c) (firstRow (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (tabM m c) (iblk m c 0 t) (iblk m c 1 t) (iblk m c 2 t))).1)

/-- The eight stores of the rest of the body cover the output block. -/
theorem coverRows (c : Dev nD) (i : grid0.Coords) (arg1 : Memref sig .tc .vmem S8x64x4096 .f32) (harg1 : arg1.IsWhole) (arg2 : Memref sig .tc .vmem S8x4x4096 .i32) (harg2 : arg2.IsWhole) (arg3 : Memref sig .tc .vmem S8x1x4096 .i32) (harg3 : arg3.IsWhole) (arg4 : Memref sig .tc .vmem S13x64 .f32) (harg4 : arg4.IsWhole) (arg5 : Memref sig .tc .vmem S32x64 .f32) (harg5 : arg5.IsWhole) (arg6 : Memref sig .tc .vmem S7x64 .f32) (harg6 : arg6.IsWhole) (arg7 : Memref sig .tc .vmem S24x64 .f32) (harg7 : arg7.IsWhole) (arg8 : Memref sig .tc .vmem S2x64 .f32) (harg8 : arg8.IsWhole) (arg9 : Memref sig .tc .vmem S8x64x4096 .f32) (harg9 : arg9.IsWhole) (arg10 : Memref sig .tc .vmem S128x64 .bf16) (harg10 : arg10.IsWhole) (x0 : Vec F S8x64x4096 .f32) (x1 : Vec F S8x4x4096 .i32) (x2 : Vec F S8x1x4096 .i32) (t : Vec F S128x64 .bf16) (v39 : FVec F S64x4096 .f32) (y : S8x64x4096.Idx) :
    ∃ pc ∈ (restRun c i arg1 harg1 arg2 harg2 arg3 harg3 arg4 harg4 arg5 harg5 arg6 harg6 arg7 harg7 arg8 harg8 arg9 harg9 arg10 harg10 x0 x1 x2 t v39).1, y ∈ pc.1.set :=
  View.cover_of_tiledL (restRun c i arg1 harg1 arg2 harg2 arg3 harg3 arg4 harg4 arg5 harg5 arg6 harg6 arg7 harg7 arg8 harg8 arg9 harg9 arg10 harg10 x0 x1 x2 t v39).1 S1x64x4096.size (by sl_kernel_rfl) y

/-- The first point's stores cover the scratch: the first of them fills it with zeros. -/
theorem coverTab (c : Dev nD) (i : grid0.Coords) (arg1 : Memref sig .tc .vmem S8x64x4096 .f32) (harg1 : arg1.IsWhole) (arg2 : Memref sig .tc .vmem S8x4x4096 .i32) (harg2 : arg2.IsWhole) (arg3 : Memref sig .tc .vmem S8x1x4096 .i32) (harg3 : arg3.IsWhole) (arg4 : Memref sig .tc .vmem S13x64 .f32) (harg4 : arg4.IsWhole) (arg5 : Memref sig .tc .vmem S32x64 .f32) (harg5 : arg5.IsWhole) (arg6 : Memref sig .tc .vmem S7x64 .f32) (harg6 : arg6.IsWhole) (arg7 : Memref sig .tc .vmem S24x64 .f32) (harg7 : arg7.IsWhole) (arg8 : Memref sig .tc .vmem S2x64 .f32) (harg8 : arg8.IsWhole) (arg9 : Memref sig .tc .vmem S8x64x4096 .f32) (harg9 : arg9.IsWhole) (arg10 : Memref sig .tc .vmem S128x64 .bf16) (harg10 : arg10.IsWhole) (hc0 : cond0_0 i) (x0 : Vec F S8x64x4096 .f32) (x1 : Vec F S8x4x4096 .i32) (x2 : Vec F S8x1x4096 .i32) (x3 : Vec F S13x64 .f32) (x4 : Vec F S32x64 .f32) (x5 : Vec F S7x64 .f32) (x6 : Vec F S24x64 .f32) (x7 : Vec F S2x64 .f32) (y : S128x64.Idx) :
    ∃ pc ∈ (buildRun c i arg1 harg1 arg2 harg2 arg3 harg3 arg4 harg4 arg5 harg5 arg6 harg6 arg7 harg7 arg8 harg8 arg9 harg9 arg10 harg10 hc0 x0 x1 x2 x3 x4 x5 x6 x7).2.1, y ∈ pc.1.set :=
  View.cover_of_wholeMem (buildRun c i arg1 harg1 arg2 harg2 arg3 harg3 arg4 harg4 arg5 harg5 arg6 harg6 arg7 harg7 arg8 harg8 arg9 harg9 arg10 harg10 hc0 x0 x1 x2 x3 x4 x5 x6 x7).2.1 (by sl_whole_mem) y

/-- Whatever the scratch held before, after the first point's stores it reads the table. -/
theorem tab_read (c : Dev nD) (f : BufTy.Contents (Elt F) scM0_0.view.ty) :
    scM0_0.view.read (Elt F) (scM0_0.view.writes (Elt F) f (buildRun c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) scM0_0 (Memref.isWhole_whole _) ((hcond0_0 t0).mpr rfl) (iblk m c 0 t0) (iblk m c 1 t0) (iblk m c 2 t0) (iblk m c 3 t0) (iblk m c 4 t0) (iblk m c 5 t0) (iblk m c 6 t0) (iblk m c 7 t0)).2.1) = tabM m c := by
  unfold tabM
  refine Eq.trans ?_ ((buildRun c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) scM0_0 (Memref.isWhole_whole _) ((hcond0_0 t0).mpr rfl) (iblk m c 0 t0) (iblk m c 1 t0) (iblk m c 2 t0) (iblk m c 3 t0) (iblk m c 4 t0) (iblk m c 5 t0) (iblk m c 6 t0) (iblk m c 7 t0)).2.2.1.trans (View.readAt_full _ _ _)).symm
  exact View.read_writes_of_cover _ _ _ _ _ (coverTab c _ _ _ _ _ _ _ _ _ _ _ _ _ _ _ _ _ _ _ _ _  _ _ _ _ _ _ _ _ _ )

/-- The invariant before point `n`: before the first, the scratch holds anything; afterwards it holds the table. -/
def PhiS (c : Dev nD) (n : ℕ) : sProp 𝕄 :=
  if n = 0 then Pipeline.ΦA spec0 c
  else iprop(owns (c : Thread nD τ) scM0_0 fullShare (tabM m c) ∗ (∃ r, prngReg c r))

theorem PhiS_zero (c : Dev nD) : PhiS m c 0 = Pipeline.ΦA spec0 c := if_pos rfl

theorem PhiS_pos (c : Dev nD) (n : ℕ) (h : n ≠ 0) :
    PhiS m c n = iprop(owns (c : Thread nD τ) scM0_0 fullShare (tabM m c) ∗ (∃ r, prngReg c r)) := if_neg h

/-! ## The pipeline's proof data -/

/-- The arrays as the region finds them; after the body at point `t` each input's buffer at its block and the output's
    at `outM`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outM m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outM m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The rest of the body at point `t`, once the scratch holds the table. -/
theorem sound_rest (c : Dev nD) (t : Fin cfg0.N) :
    iprop((owns (c : Thread nD τ) scM0_0 fullShare (tabM m c) ∗ (∃ r, prngReg c r)) ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ (∃ d, owns (c : Thread nD τ) (ms0_8 t) fullShare d))
      ⊢ wp frame (wpE (defs₀ (F := F)) Variants.none c none) Set.univ (restProg (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (tabM m c) (firstRow (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (tabM m c) (iblk m c 0 t) (iblk m c 1 t) (iblk m c 2 t))) (fun _ => bodyPost m c t) := by
  unfold bodyPost
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) from rfl, PhiS_pos m c _ (Nat.succ_ne_zero _)]
  unfold outM
  iintro ⟨Hs, Ho, H0, H1, H2, H3, H4, H5, H6, H7, H8⟩
  iapply ((restRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (tabM m c) (firstRow (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (tabM m c) (iblk m c 0 t) (iblk m c 1 t) (iblk m c 2 t))).2 Set.univ _)
  isplitl [H0]; · iexact H0
  isplitl [H1]; · iexact H1
  isplitl [H2]; · iexact H2
  isplitl [H8]; · iexact H8
  iintro ⟨H0, H1, H2, ⟨%e8, H8⟩⟩
  isplitl [Hs]; · iexact Hs
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (coverRows c _ _ _ _ _ _ _ _ _ _ _ _ _ _ _ _ _ _ _ _ _  _ _ _ _ _)

set_option maxHeartbeats 1600000 in
/-- The body at any point: at the first it builds the table, at a later one it finds it; then the rest follows. -/
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before0_0, before0_1, before0_2, before0_3, before0_4, before0_5, before0_6, before0_7]
  rw [body_eq_rest, wp_bind]
  rw [show (dats m 0 c).Φ t.castSucc = PhiS m c t.val from rfl]
  have hN : t.val < 25 := lt_of_lt_of_eq t.isLt (show cfg0.N = 25 from N_0)
  by_cases hz : t.val = 0
  · obtain rfl : t = t0 := Fin.ext hz
    rw [PhiS_zero, PhiA0_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((buildRun c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) scM0_0 (Memref.isWhole_whole _) ((hcond0_0 t0).mpr rfl) (iblk m c 0 t0) (iblk m c 1 t0) (iblk m c 2 t0) (iblk m c 3 t0) (iblk m c 4 t0) (iblk m c 5 t0) (iblk m c 6 t0) (iblk m c 7 t0)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iintro ⟨H0, H1, H2, H3, H4, H5, H6, H7, ⟨%es0, HS0⟩⟩
    iapply (sound_rest m c t0)
    isplitl [HS0 Hg]
    · isplitl [HS0]
      · unfold owns; iexists _; isplitr
        swap; · iexact HS0
        ipureintro
        exact tab_read m c es0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · rw [PhiS_pos m c _ hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (laterRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => hz (by have := (hcond0_0 t).mp h; omega)) (iblk m c 0 t) (iblk m c 1 t) (iblk m c 2 t) (iblk m c 3 t) (iblk m c 4 t) (iblk m c 5 t) (iblk m c 6 t) (iblk m c 7 t) (tabM m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iintro ⟨H0, H1, H2, H3, H4, H5, H6, H7, HS0⟩
    iapply (sound_rest m c t)
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiS_zero m c]

/-- After the last point the invariant gives the scratch back at some contents. -/
theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by rw [show cfg0.N = 25 from N_0]; decide), PhiA0_eq]
  iintro ⟨HS0, Hg⟩
  isplitl [HS0]
  · iexists _; iexact HS0
  iexact Hg

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: every run ends, the argument arrays end as they were, and every semaphore counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Gen

end
-- ==== Proof.Value.Table.lean ====
/- The table that the kernel builds at its first grid point: what each of its rows holds once all stores are done. -/
module

public import proofs.«01_k».proof.Proof.KernelIdeal.Frame
public import Idealize.ShloMosaic.Lib.VecWindow
public import Idealize.ShloMosaic.Lib.Pointwise
public import Idealize.ShloMosaic.PureOps.Ideal

@[expose] public section

noncomputable section

namespace Cert.Value

open Idealize.ShloMosaic Cert.KernelIdeal Cert.KernelIdeal.Gen

variable {sg : RefSig} {κ : Kind} {sp : Space}

/-- Row `n` of a table, column `d`, and 0 past the table's last row. -/
def rowAt {N : ℕ} (x : FVec Ideal ⟨2, ![N, 64]⟩ .f32) (n : ℕ) (d : Fin 64) : EReal :=
  if h : n < N then x (ix2 ⟨n, h⟩ d) else 0

/-- What a view of the table reads after the stores `L`, whatever stood there before. -/
def after (v : View sg κ sp S128x64 .bf16) (L : List (View.Piece (Elt Ideal) S128x64 .bf16)) (k : Fin 128) (d : Fin 64) :
    EReal :=
  v.read (Elt Ideal) (v.writes (Elt Ideal) v.junk L) (ix2 k d)

/-- Storing rows `a .. a+n-1` whole replaces those rows and leaves the others. -/
theorem after_rows (v : View sg κ sp S128x64 .bf16) (L : List (View.Piece (Elt Ideal) S128x64 .bf16)) (a n : ℕ)
    (inb : ∀ x, (![a, 0] : Fin 2 → ℕ) x + (![n, 64] : Fin 2 → ℕ) x ≤ S128x64.size x)
    (w : FVec Ideal ⟨2, ![n, 64]⟩ .bf16) (k : Fin 128) (d : Fin 64) :
    after v (⟨Rect.unit (s := S128x64) ![a, 0] ![n, 64] inb, w⟩ :: L) k d
      = if h : a ≤ k.val ∧ k.val < a + n then w (ix2 ⟨k.val - a, by omega⟩ d) else after v L k d := by
  unfold after
  rw [View.read_writes_cons_put v _ inb w L rfl]
  unfold VecWindow.put
  by_cases h : a ≤ k.val ∧ k.val < a + n
  · have h' : ∀ x, (![a, 0] : Fin 2 → ℕ) x ≤ ((ix2 k d : S128x64.Idx) x).val
        ∧ ((ix2 k d : S128x64.Idx) x).val < (![a, 0] : Fin 2 → ℕ) x + (![n, 64] : Fin 2 → ℕ) x := by
      intro x
      fin_cases x
      · exact h
      · exact ⟨Nat.zero_le _, by show d.val < 0 + 64; omega⟩
    rw [dif_pos h', dif_pos h]
    refine congrArg w (funext fun x => ?_)
    fin_cases x
    · rfl
    · exact Fin.ext (Nat.sub_zero _)
  · rw [dif_neg h, dif_neg fun h' => h (h' 0)]

/-- Replacing seven of the eight rows of a window and storing the window back replaces those seven rows of the table. -/
theorem after_band (v : View sg κ sp S128x64 .bf16) (L : List (View.Piece (Elt Ideal) S128x64 .bf16)) (r o : ℕ)
    (inb : ∀ x, (![r, 0] : Fin 2 → ℕ) x + S8x64.size x ≤ S128x64.size x) (hs : S8x64.Slices ![o, 0] S7x64)
    (w : FVec Ideal S7x64 .bf16) (k : Fin 128) (d : Fin 64) :
    after v (⟨Rect.unit (s := S128x64) ![r, 0] S8x64.size inb,
        updateSlice (s := S8x64) (v.readCov L (Rect.unit (s := S128x64) ![r, 0] S8x64.size inb).toLoadRect) w ![o, 0] hs⟩ :: L) k d
      = if h : r + o ≤ k.val ∧ k.val < r + o + 7 then w (ix2 ⟨k.val - (r + o), by omega⟩ d) else after v L k d := by
  have ho : o + 7 ≤ 8 := hs.2 0
  refine (after_rows v L r 8 inb _ k d).trans ?_
  by_cases h8 : r ≤ k.val ∧ k.val < r + 8
  · rw [dif_pos h8]
    unfold updateSlice
    by_cases h : r + o ≤ k.val ∧ k.val < r + o + 7
    · rw [dif_pos h, dif_pos]
      · refine congrArg w (funext fun x => ?_)
        fin_cases x
        · exact Fin.ext (Nat.sub_sub _ _ _)
        · exact Fin.ext (Nat.sub_zero _)
      · intro x
        fin_cases x
        · show o ≤ k.val - r ∧ k.val - r < o + 7
          omega
        · show 0 ≤ d.val ∧ d.val < 0 + 64
          omega
    · rw [dif_neg h, dif_neg]
      · unfold View.readCov
        rw [View.readAt_unit v _ inb rfl inb]
        unfold VecWindow.window after
        refine congrArg _ (funext fun x => ?_)
        fin_cases x
        · exact Fin.ext (by show r + 1 * (k.val - r) = k.val; omega)
        · exact Fin.ext (by show 0 + 1 * d.val = d.val; omega)
      · intro hx
        have h0 : o ≤ k.val - r ∧ k.val - r < o + 7 := hx 0
        omega
  · rw [dif_neg h8, dif_neg (by omega)]

/-- One band of the table: a row of one embedding added to each of seven rows of another. -/
theorem band_apply (a : Vec Ideal S1x64 .f32) (b : Vec Ideal S7x64 .f32) (j : Fin 7) (d : Fin 64) :
    (k0_pay3 a b (ix2 j d) : EReal) = (a (ix2 0 d) : EReal) + b (ix2 j d) := by
  pointwise [k0_pay3]

/-- Loading rows from `i` on of a whole table reads those rows. -/
theorem load_rows {N : ℕ} (m : Memref sg κ sp ⟨2, ![N, 64]⟩ .f32) (hm : m.IsWhole) (x : Vec Ideal ⟨2, ![N, 64]⟩ .f32)
    (i n : ℕ) (inb : ∀ y, (![i, 0] : Fin 2 → ℕ) y + (![n, 64] : Fin 2 → ℕ) y ≤ (⟨2, ![N, 64]⟩ : Shape).size y)
    (j : Fin n) (d : Fin 64) :
    (m.view.readAt (Elt Ideal) (Rect.unit (s := ⟨2, ![N, 64]⟩) ![i, 0] ![n, 64] inb).toLoadRect (hm.unread x)
      (ix2 j d) : EReal) = rowAt x (i + j.val) d := by
  have hN : i + n ≤ N := inb 0
  rw [View.readAt_unit _ _ inb rfl inb]
  unfold VecWindow.window rowAt
  rw [dif_pos (by omega), hm.read_unread]
  refine congrArg x (funext fun y => ?_)
  fin_cases y
  · exact Fin.ext (by show i + 1 * j.val = i + j.val; omega)
  · exact Fin.ext (by show 0 + 1 * d.val = d.val; omega)

/-- Storing a band over a table whose row `k` is known: the band's row where it covers `k`. -/
theorem band_step (v : View sg κ sp S128x64 .bf16) (L : List (View.Piece (Elt Ideal) S128x64 .bf16)) (r o i : ℕ)
    (inb : ∀ x, (![r, 0] : Fin 2 → ℕ) x + S8x64.size x ≤ S128x64.size x) (hs : S8x64.Slices ![o, 0] S7x64)
    {M N : ℕ} {sp₁ sp₂ : Space} (ma : Memref sg κ sp₁ ⟨2, ![M, 64]⟩ .f32) (ha : ma.IsWhole) (xa : Vec Ideal ⟨2, ![M, 64]⟩ .f32)
    (mb : Memref sg κ sp₂ ⟨2, ![N, 64]⟩ .f32) (hb : mb.IsWhole) (xb : Vec Ideal ⟨2, ![N, 64]⟩ .f32)
    (inba : ∀ y, (![i, 0] : Fin 2 → ℕ) y + (![1, 64] : Fin 2 → ℕ) y ≤ (⟨2, ![M, 64]⟩ : Shape).size y)
    (inbb : ∀ y, (![0, 0] : Fin 2 → ℕ) y + (![7, 64] : Fin 2 → ℕ) y ≤ (⟨2, ![N, 64]⟩ : Shape).size y)
    (k : Fin 128) (d : Fin 64) :
    after v (⟨Rect.unit (s := S128x64) ![r, 0] S8x64.size inb,
        updateSlice (s := S8x64) (v.readCov L (Rect.unit (s := S128x64) ![r, 0] S8x64.size inb).toLoadRect)
          (k0_pay3
            (ma.view.readAt (Elt Ideal) (Rect.unit (s := ⟨2, ![M, 64]⟩) ![i, 0] ![1, 64] inba).toLoadRect (ha.unread xa))
            (mb.view.readAt (Elt Ideal) (Rect.unit (s := ⟨2, ![N, 64]⟩) ![0, 0] ![7, 64] inbb).toLoadRect (hb.unread xb)))
          ![o, 0] hs⟩ :: L) k d
      = if r + o ≤ k.val ∧ k.val < r + o + 7 then rowAt xa i d + rowAt xb (k.val - (r + o)) d else after v L k d := by
  rw [after_band]
  split
  · rw [band_apply, load_rows, load_rows]
    simp only [Fin.val_zero, Nat.add_zero, Nat.zero_add]
  · rfl

/-- What row `k` of the built table holds at column `d`: rows `7 i + j` the sums of a row of the first table and one of
    the second, rows `56 + 7 i + j` those of the third and the fourth, rows 112 and 113 the mask table, the others 0. -/
def want (e0 : FVec Ideal ⟨2, ![13, 64]⟩ .f32) (e1 : FVec Ideal ⟨2, ![32, 64]⟩ .f32)
    (e2 : FVec Ideal ⟨2, ![7, 64]⟩ .f32) (e3 : FVec Ideal ⟨2, ![24, 64]⟩ .f32) (me : FVec Ideal ⟨2, ![2, 64]⟩ .f32)
    (k : ℕ) (d : Fin 64) : EReal :=
  if k < 49 then rowAt e0 (k / 7) d + rowAt e1 (k % 7) d
  else if 56 ≤ k ∧ k < 105 then rowAt e2 ((k - 56) / 7) d + rowAt e3 ((k - 56) % 7) d
  else if 112 ≤ k ∧ k < 114 then rowAt me (k - 112) d
  else 0

section Steps

variable {e0 : FVec Ideal ⟨2, ![13, 64]⟩ .f32} {e1 : FVec Ideal ⟨2, ![32, 64]⟩ .f32} {e2 : FVec Ideal ⟨2, ![7, 64]⟩ .f32}
  {e3 : FVec Ideal ⟨2, ![24, 64]⟩ .f32} {me : FVec Ideal ⟨2, ![2, 64]⟩ .f32}

/-- A band of the first two tables in its place is as wanted, so only the other rows are left to see. -/
theorem low_step {t t' : EReal} {k p i : ℕ} {d : Fin 64}
    (ht : t = if p ≤ k ∧ k < p + 7 then rowAt e0 i d + rowAt e1 (k - p) d else t') (hp : p = 7 * i) (hi : i < 7)
    (rest : ¬ (p ≤ k ∧ k < p + 7) → t' = want e0 e1 e2 e3 me k d) : t = want e0 e1 e2 e3 me k d := by
  rw [ht]
  split
  · unfold want
    rw [if_pos (by omega), show k / 7 = i by omega, show k % 7 = k - p by omega]
  · exact rest ‹_›

/-- A band of the third and fourth tables in its place is as wanted, so only the other rows are left to see. -/
theorem high_step {t t' : EReal} {k p i : ℕ} {d : Fin 64}
    (ht : t = if p ≤ k ∧ k < p + 7 then rowAt e2 i d + rowAt e3 (k - p) d else t') (hp : p = 56 + 7 * i) (hi : i < 7)
    (rest : ¬ (p ≤ k ∧ k < p + 7) → t' = want e0 e1 e2 e3 me k d) : t = want e0 e1 e2 e3 me k d := by
  rw [ht]
  split
  · unfold want
    rw [if_neg (by omega), if_pos (by omega), show (k - 56) / 7 = i by omega, show (k - 56) % 7 = k - p by omega]
  · exact rest ‹_›

/-- A row in no band and not of the mask table is wanted 0. -/
theorem want_zero {k : ℕ} {d : Fin 64} (h : ¬ k < 49) (h' : ¬ (56 ≤ k ∧ k < 105)) (h'' : ¬ (112 ≤ k ∧ k < 114)) :
    want e0 e1 e2 e3 me k d = 0 := by
  unfold want
  rw [if_neg h, if_neg h', if_neg h'']

end Steps

/-- The mask table's rows, stored last. -/
theorem mask_rows (v : View sg κ sp S128x64 .bf16) (L : List (View.Piece (Elt Ideal) S128x64 .bf16))
    (inb : ∀ x, (![112, 0] : Fin 2 → ℕ) x + S2x64.size x ≤ S128x64.size x)
    {sp₁ : Space} (m : Memref sg κ sp₁ S2x64 .f32) (hm : m.IsWhole) (x : Vec Ideal S2x64 .f32)
    (inb' : ∀ y, (![0, 0] : Fin 2 → ℕ) y + S2x64.size y ≤ S2x64.size y) (k : Fin 128) (d : Fin 64) :
    after v (⟨Rect.unit (s := S128x64) ![112, 0] S2x64.size inb,
        k0_pay19 (m.view.readAt (Elt Ideal) (Rect.unit (s := S2x64) ![0, 0] S2x64.size inb').toLoadRect (hm.unread x))⟩ :: L) k d
      = if 112 ≤ k.val ∧ k.val < 114 then rowAt x (k.val - 112) d else after v L k d := by
  refine (after_rows v L 112 2 inb _ k d).trans ?_
  by_cases h : 112 ≤ k.val ∧ k.val < 114
  · rw [dif_pos h, if_pos h]
    have hp : ∀ (a : Vec Ideal S2x64 .f32) (j : Fin 2), (k0_pay19 a (ix2 j d) : EReal) = a (ix2 j d) := fun a j => by
      pointwise [k0_pay19]
    refine (hp _ _).trans ((load_rows m hm x 0 2 inb' _ d).trans ?_)
    rw [Nat.zero_add]
  · rw [dif_neg h, if_neg h]

set_option maxRecDepth 16384 in
/-- After the stores of the first grid point the scratch holds the table as wanted. -/
theorem build_want (c : Dev nD) (i : grid0.Coords) (arg1 : Memref sig .tc .vmem S8x64x4096 .f32) (harg1 : arg1.IsWhole) (arg2 : Memref sig .tc .vmem S8x4x4096 .i32) (harg2 : arg2.IsWhole) (arg3 : Memref sig .tc .vmem S8x1x4096 .i32) (harg3 : arg3.IsWhole) (arg4 : Memref sig .tc .vmem S13x64 .f32) (harg4 : arg4.IsWhole) (arg5 : Memref sig .tc .vmem S32x64 .f32) (harg5 : arg5.IsWhole) (arg6 : Memref sig .tc .vmem S7x64 .f32) (harg6 : arg6.IsWhole) (arg7 : Memref sig .tc .vmem S24x64 .f32) (harg7 : arg7.IsWhole) (arg8 : Memref sig .tc .vmem S2x64 .f32) (harg8 : arg8.IsWhole) (arg9 : Memref sig .tc .vmem S8x64x4096 .f32) (harg9 : arg9.IsWhole) (arg10 : Memref sig .tc .vmem S128x64 .bf16) (harg10 : arg10.IsWhole) (hc0 : cond0_0 i) (x0 : Vec Ideal S8x64x4096 .f32) (x1 : Vec Ideal S8x4x4096 .i32) (x2 : Vec Ideal S8x1x4096 .i32) (x3 : Vec Ideal S13x64 .f32) (x4 : Vec Ideal S32x64 .f32) (x5 : Vec Ideal S7x64 .f32) (x6 : Vec Ideal S24x64 .f32) (x7 : Vec Ideal S2x64 .f32) (k : Fin 128) (d : Fin 64) :
    ((buildRun (F := Ideal) c i arg1 harg1 arg2 harg2 arg3 harg3 arg4 harg4 arg5 harg5 arg6 harg6 arg7 harg7 arg8 harg8 arg9 harg9 arg10 harg10 hc0 x0 x1 x2 x3 x4 x5 x6 x7).1 (ix2 k d) : EReal) = want x3 x4 x5 x6 x7 k d := by
  rw [(buildRun (F := Ideal) c i arg1 harg1 arg2 harg2 arg3 harg3 arg4 harg4 arg5 harg5 arg6 harg6 arg7 harg7 arg8 harg8 arg9 harg9 arg10 harg10 hc0 x0 x1 x2 x3 x4 x5 x6 x7).2.2.1]
  unfold tabRead
  rw [View.readAt_full]
  show after arg10.view (buildRun.sl.HS0_16 c arg4 harg4 arg5 harg5 arg6 harg6 arg7 harg7 arg8 harg8 arg10 x3 x4 x5 x6 x7) k d = _
  refine (mask_rows arg10.view _ _ arg8 harg8 x7 _ k d).trans ?_
  split
  · rename_i h
    unfold want
    rw [if_neg (by omega), if_neg (by omega), if_pos h]
  rename_i hm
  refine high_step (band_step arg10.view _ 98 0 6 _ _ arg6 harg6 x5 arg7 harg7 x6 _ _ k d) rfl (by decide) fun h13 => ?_
  refine low_step (band_step arg10.view _ 42 0 6 _ _ arg4 harg4 x3 arg5 harg5 x4 _ _ k d) rfl (by decide) fun h12 => ?_
  refine high_step (band_step arg10.view _ 90 1 5 _ _ arg6 harg6 x5 arg7 harg7 x6 _ _ k d) rfl (by decide) fun h11 => ?_
  refine low_step (band_step arg10.view _ 34 1 5 _ _ arg4 harg4 x3 arg5 harg5 x4 _ _ k d) rfl (by decide) fun h10 => ?_
  refine high_step (band_step arg10.view _ 84 0 4 _ _ arg6 harg6 x5 arg7 harg7 x6 _ _ k d) rfl (by decide) fun h9 => ?_
  refine low_step (band_step arg10.view _ 28 0 4 _ _ arg4 harg4 x3 arg5 harg5 x4 _ _ k d) rfl (by decide) fun h8 => ?_
  refine high_step (band_step arg10.view _ 76 1 3 _ _ arg6 harg6 x5 arg7 harg7 x6 _ _ k d) rfl (by decide) fun h7 => ?_
  refine low_step (band_step arg10.view _ 20 1 3 _ _ arg4 harg4 x3 arg5 harg5 x4 _ _ k d) rfl (by decide) fun h6 => ?_
  refine high_step (band_step arg10.view _ 70 0 2 _ _ arg6 harg6 x5 arg7 harg7 x6 _ _ k d) rfl (by decide) fun h5 => ?_
  refine low_step (band_step arg10.view _ 14 0 2 _ _ arg4 harg4 x3 arg5 harg5 x4 _ _ k d) rfl (by decide) fun h4 => ?_
  refine high_step (band_step arg10.view _ 62 1 1 _ _ arg6 harg6 x5 arg7 harg7 x6 _ _ k d) rfl (by decide) fun h3 => ?_
  refine low_step (band_step arg10.view _ 6 1 1 _ _ arg4 harg4 x3 arg5 harg5 x4 _ _ k d) rfl (by decide) fun h2 => ?_
  refine high_step (band_step arg10.view _ 56 0 0 _ _ arg6 harg6 x5 arg7 harg7 x6 _ _ k d) rfl (by decide) fun h1 => ?_
  refine low_step (band_step arg10.view _ 0 0 0 _ _ arg4 harg4 x3 arg5 harg5 x4 _ _ k d) rfl (by decide) fun h0 => ?_
  rw [want_zero (by omega) (by omega) (by omega)]
  refine (congrFun (View.read_writes_full arg10.view _ inb_S128x64_S128x64_0_0 _ _) (ix2 k d)).trans ?_
  show (k0_pay2 (F := Ideal) (ix2 k d) : EReal) = 0
  pointwise [k0_pay2]

end Cert.Value

end
-- ==== Proof.Value.Row.lean ====
/- One row of the kernel's output block, element by element. -/
module

public import proofs.«01_k».proof.Proof.Value.Table

@[expose] public section

noncomputable section

namespace Cert.Value

open Idealize.ShloMosaic Cert.KernelIdeal Cert.KernelIdeal.Gen

/-- A sum over the table's rows weighted by three indicators, one in each stretch of the rows, picks three rows. -/
theorem sum_three (f : Fin 128 → EReal) (u v w : ℕ → EReal) (p q r : ℕ) (hp : p < 56) (hq : q < 56) (hr : r < 16)
    (hu : ∀ k < 56, u k = if k = p then 1 else 0) (hv : ∀ k < 56, v k = if k = q then 1 else 0)
    (hw : ∀ k < 16, w k = if k = r then 1 else 0) :
    (∑ k : Fin 128, f k * (if k.val < 56 then u k.val else if k.val - 56 < 56 then v (k.val - 56) else w (k.val - 56 - 56)))
      = f ⟨p, by omega⟩ + f ⟨56 + q, by omega⟩ + f ⟨112 + r, by omega⟩ := by
  have h : ∀ k : Fin 128,
      f k * (if k.val < 56 then u k.val else if k.val - 56 < 56 then v (k.val - 56) else w (k.val - 56 - 56))
        = (if k = ⟨p, by omega⟩ then f k else 0) + (if k = ⟨56 + q, by omega⟩ then f k else 0)
          + (if k = ⟨112 + r, by omega⟩ then f k else 0) := by
    intro k
    simp only [Fin.ext_iff]
    by_cases h1 : k.val < 56
    · rw [if_pos h1, hu _ h1, if_neg (show ¬ k.val = 56 + q by omega), if_neg (show ¬ k.val = 112 + r by omega)]
      split <;> simp
    · rw [if_neg h1, if_neg (show ¬ k.val = p by omega)]
      by_cases h2 : k.val - 56 < 56
      · rw [if_pos h2, hv _ h2, if_neg (show ¬ k.val = 112 + r by omega)]
        by_cases h3 : k.val - 56 = q
        · rw [if_pos h3, if_pos (by omega)]; simp
        · rw [if_neg h3, if_neg (by omega)]; simp
      · rw [if_neg h2, hw _ (by omega), if_neg (show ¬ k.val = 56 + q by omega)]
        by_cases h3 : k.val - 56 - 56 = r
        · rw [if_pos h3, if_pos (by omega)]; simp
        · rw [if_neg h3, if_neg (by omega)]; simp
  rw [Finset.sum_congr rfl fun k _ => h k, Finset.sum_add_distrib, Finset.sum_add_distrib]
  simp only [Finset.sum_ite_eq', Finset.mem_univ, if_true]

/-- The kernel's one-hot entry: whether row number `k` is the word `w`, as a number. -/
theorem hot (k : ℕ) (hk : k < 2 ^ 32) (w : BitVec 32) :
    (FloatOps.sitofp (F := Ideal) FTy.f32 (BitVec.setWidth 32 (IntOp.cmpi CmpIPredicate.eq (BitVec.ofNat 32 k) w)) : EReal)
      = if k = w.toNat then 1 else 0 := by
  have he : (BitVec.ofNat 32 k = w) ↔ k = w.toNat := by
    constructor
    · rintro rfl
      rw [BitVec.toNat_ofNat, Nat.mod_eq_of_lt hk]
    · intro h
      apply BitVec.eq_of_toNat_eq
      rw [BitVec.toNat_ofNat, Nat.mod_eq_of_lt hk, h]
  by_cases h : k = w.toNat
  · rw [if_pos h, he.2 h]
    show (((BitVec.setWidth 32 (IntOp.cmpi CmpIPredicate.eq w w)).toInt : ℝ) : EReal) = 1
    have : IntOp.cmpi CmpIPredicate.eq w w = 1#1 := by simp [IntOp.cmpi]
    rw [this]
    norm_num
  · rw [if_neg h]
    show (((BitVec.setWidth 32 (IntOp.cmpi CmpIPredicate.eq (BitVec.ofNat 32 k) w)).toInt : ℝ) : EReal) = 0
    have : IntOp.cmpi CmpIPredicate.eq (BitVec.ofNat 32 k) w = 0#1 := by
      have hn : ¬ BitVec.ofNat 32 k = w := fun e => h (he.1 e)
      simp only [IntOp.cmpi, beq_eq_false_iff_ne.2 hn]; rfl
    rw [this]
    norm_num

/-- Two tokens below 7, joined into one row number. -/
theorem joined (a b : BitVec 32) (ha : a.toNat < 7) (hb : b.toNat < 7) :
    (IntOp.addi (IntOp.muli a 7#32) b).toNat = 7 * a.toNat + b.toNat := by
  show (a * 7#32 + b).toNat = _
  rw [BitVec.toNat_add, BitVec.toNat_mul]
  show (a.toNat * 7 % 2 ^ 32 + b.toNat) % 2 ^ 32 = _
  omega

theorem pair_div (i j : ℕ) (hj : j < 7) : (7 * i + j) / 7 = i := by omega

theorem pair_mod (i j : ℕ) (hj : j < 7) : (7 * i + j) % 7 = j := by omega

/-- One row of the output block: the input plus the five table rows that the tokens name. -/
theorem row_apply (e0 : FVec Ideal ⟨2, ![13, 64]⟩ .f32) (e1 : FVec Ideal ⟨2, ![32, 64]⟩ .f32)
    (e2 : FVec Ideal ⟨2, ![7, 64]⟩ .f32) (e3 : FVec Ideal ⟨2, ![24, 64]⟩ .f32) (me : FVec Ideal ⟨2, ![2, 64]⟩ .f32)
    (t : Vec Ideal S128x64 .bf16) (ht : ∀ (k : Fin 128) (d : Fin 64), (t (ix2 k d) : EReal) = want e0 e1 e2 e3 me k d)
    (mk : Vec Ideal S1x4x4096 .i32) (ms : Vec Ideal S1x1x4096 .i32)
    (x : Vec Ideal S1x64x4096 .f32) (d : Fin 64) (b : Fin 4096)
    (hmk : ∀ k, (mk (ix3 0 k b) : BitVec 32).toNat < 7) (hms : (ms (ix3 0 0 b) : BitVec 32).toNat < 2) :
    (k0_pay23 t mk ms x (ix3 0 d b) : EReal) = (x (ix3 0 d b) : EReal)
      + (((rowAt e0 (mk (ix3 0 0 b) : BitVec 32).toNat d + rowAt e1 (mk (ix3 0 1 b) : BitVec 32).toNat d)
          + (rowAt e2 (mk (ix3 0 2 b) : BitVec 32).toNat d + rowAt e3 (mk (ix3 0 3 b) : BitVec 32).toNat d))
        + rowAt me (ms (ix3 0 0 b) : BitVec 32).toNat d) := by
  pointwise [k0_pay23]
  have j0 := joined _ _ (hmk 0) (hmk 1)
  have j1 := joined _ _ (hmk 2) (hmk 3)
  have h0 := hmk 0; have h1 := hmk 1; have h2 := hmk 2; have h3 := hmk 3
  refine congrArg (fun z : EReal => (x (ix3 0 d b) : EReal) + z) ?_
  refine (sum_three (fun k => t (ix2 k d)) (fun k => _) (fun k => _) (fun k => _) _ _ _ ?_ ?_ ?_
    (fun k hk => hot k (by omega) _) (fun k hk => hot k (by omega) _) (fun k hk => hot k (by omega) _)).trans ?_
  · rw [j0]; omega
  · rw [j1]; omega
  · omega
  rw [ht, ht, ht]
  unfold want
  simp only [j0, j1]
  rw [if_pos (by omega), if_neg (by omega), if_pos (by omega), if_neg (by omega), if_neg (by omega), if_pos (by omega)]
  rw [pair_div _ _ h1, pair_mod _ _ h1, Nat.add_sub_cancel_left, pair_div _ _ h3, pair_mod _ _ h3, Nat.add_sub_cancel_left]

end Cert.Value

end
-- ==== Proof.Value.Block.lean ====
/- The kernel's output block after the eight row stores, element by element. -/
module

public import proofs.«01_k».proof.Proof.Value.Row

@[expose] public section

noncomputable section

namespace Cert.Value

open Idealize.ShloMosaic Idealize.ShloMosaic.TcCoe Cert.KernelIdeal Cert.KernelIdeal.Gen

/-- What element `(l, d, b)` of an output block is to be: the input block's element plus the five table rows that the
    tokens at `(l, b)` of the token blocks name. -/
def blockAt (x0 : Vec Ideal S8x64x4096 .f32) (x1 : Vec Ideal S8x4x4096 .i32) (x2 : Vec Ideal S8x1x4096 .i32)
    (e0 : FVec Ideal ⟨2, ![13, 64]⟩ .f32) (e1 : FVec Ideal ⟨2, ![32, 64]⟩ .f32)
    (e2 : FVec Ideal ⟨2, ![7, 64]⟩ .f32) (e3 : FVec Ideal ⟨2, ![24, 64]⟩ .f32) (me : FVec Ideal ⟨2, ![2, 64]⟩ .f32)
    (l : Fin 8) (d : Fin 64) (b : Fin 4096) : EReal :=
  (x0 (ix3 l d b) : EReal)
    + (((rowAt e0 (x1 (ix3 l 0 b) : BitVec 32).toNat d + rowAt e1 (x1 (ix3 l 1 b) : BitVec 32).toNat d)
        + (rowAt e2 (x1 (ix3 l 2 b) : BitVec 32).toNat d + rowAt e3 (x1 (ix3 l 3 b) : BitVec 32).toNat d))
      + rowAt me (x2 (ix3 l 0 b) : BitVec 32).toNat d)

section Loads

variable {sg : RefSig} {κ : Kind} {sp : Space}

/-- Loading slab `l` of a block of eight slabs reads that slab. -/
theorem load_slab {e : EltTy} {N M : ℕ} (m : Memref sg κ sp ⟨3, ![8, N, M]⟩ e) (hm : m.IsWhole)
    (x : Vec Ideal ⟨3, ![8, N, M]⟩ e) (l : ℕ)
    (inb : ∀ y, (![l, 0, 0] : Fin 3 → ℕ) y + (![1, N, M] : Fin 3 → ℕ) y ≤ (⟨3, ![8, N, M]⟩ : Shape).size y)
    (hl : l < 8) (d : Fin N) (b : Fin M) :
    m.view.readAt (Elt Ideal) (Rect.unit (s := ⟨3, ![8, N, M]⟩) ![l, 0, 0] ![1, N, M] inb).toLoadRect (hm.unread x)
      (ix3 0 d b) = x (ix3 ⟨l, hl⟩ d b) := by
  rw [View.readAt_unit _ _ inb rfl inb]
  unfold VecWindow.window
  rw [hm.read_unread]
  refine congrArg x (funext fun y => ?_)
  fin_cases y
  · exact Fin.ext (by show l + 1 * 0 = l; omega)
  · exact Fin.ext (by show 0 + 1 * d.val = d.val; omega)
  · exact Fin.ext (by show 0 + 1 * b.val = b.val; omega)

/-- Storing slab `l` of the output block replaces that slab and leaves the others. -/
theorem after_slab (v : View sg κ sp S8x64x4096 .f32) (f : v.ty.Contents (Elt Ideal))
    (L : List (View.Piece (Elt Ideal) S8x64x4096 .f32)) (l : ℕ)
    (inb : ∀ x, (![l, 0, 0] : Fin 3 → ℕ) x + S1x64x4096.size x ≤ S8x64x4096.size x)
    (w : FVec Ideal S1x64x4096 .f32) (k : Fin 8) (d : Fin 64) (b : Fin 4096) :
    v.read (Elt Ideal) (v.writes (Elt Ideal) f (⟨Rect.unit (s := S8x64x4096) ![l, 0, 0] S1x64x4096.size inb, w⟩ :: L)) (ix3 k d b)
      = if k.val = l then w (ix3 0 d b) else v.read (Elt Ideal) (v.writes (Elt Ideal) f L) (ix3 k d b) := by
  rw [View.read_writes_cons_put v _ inb w L rfl]
  unfold VecWindow.put
  by_cases h : k.val = l
  · have h' : ∀ x, (![l, 0, 0] : Fin 3 → ℕ) x ≤ ((ix3 k d b : S8x64x4096.Idx) x).val
        ∧ ((ix3 k d b : S8x64x4096.Idx) x).val < (![l, 0, 0] : Fin 3 → ℕ) x + S1x64x4096.size x := by
      intro x
      fin_cases x
      · show l ≤ k.val ∧ k.val < l + 1
        omega
      · show 0 ≤ d.val ∧ d.val < 0 + 64
        omega
      · show 0 ≤ b.val ∧ b.val < 0 + 4096
        omega
    rw [dif_pos h', if_pos h]
    refine congrArg w (funext fun x => ?_)
    fin_cases x
    · exact Fin.ext (by show k.val - l = 0; omega)
    · exact Fin.ext (Nat.sub_zero _)
    · exact Fin.ext (Nat.sub_zero _)
  · rw [if_neg h, dif_neg]
    intro h'
    have h0 : l ≤ k.val ∧ k.val < l + 1 := h' 0
    omega

variable {e0 : FVec Ideal ⟨2, ![13, 64]⟩ .f32} {e1 : FVec Ideal ⟨2, ![32, 64]⟩ .f32} {e2 : FVec Ideal ⟨2, ![7, 64]⟩ .f32}
  {e3 : FVec Ideal ⟨2, ![24, 64]⟩ .f32} {me : FVec Ideal ⟨2, ![2, 64]⟩ .f32}

/-- The store of row `l`, computed from slab `l` of each block, leaves slab `l` as it is to be. -/
theorem slab_step (v : View sg κ sp S8x64x4096 .f32) (f : v.ty.Contents (Elt Ideal))
    (L : List (View.Piece (Elt Ideal) S8x64x4096 .f32)) (l : ℕ) (hl : l < 8)
    (inb : ∀ x, (![l, 0, 0] : Fin 3 → ℕ) x + S1x64x4096.size x ≤ S8x64x4096.size x)
    (t : Vec Ideal S128x64 .bf16) (ht : ∀ (k : Fin 128) (d : Fin 64), (t (ix2 k d) : EReal) = want e0 e1 e2 e3 me k d)
    {sp₀ sp₁ sp₂ : Space}
    (m0 : Memref sg κ sp₀ S8x64x4096 .f32) (h0 : m0.IsWhole) (x0 : Vec Ideal S8x64x4096 .f32)
    (m1 : Memref sg κ sp₁ S8x4x4096 .i32) (h1 : m1.IsWhole) (x1 : Vec Ideal S8x4x4096 .i32)
    (m2 : Memref sg κ sp₂ S8x1x4096 .i32) (h2 : m2.IsWhole) (x2 : Vec Ideal S8x1x4096 .i32)
    (inb0 : ∀ x, (![l, 0, 0] : Fin 3 → ℕ) x + S1x64x4096.size x ≤ S8x64x4096.size x)
    (inb1 : ∀ x, (![l, 0, 0] : Fin 3 → ℕ) x + S1x4x4096.size x ≤ S8x4x4096.size x)
    (inb2 : ∀ x, (![l, 0, 0] : Fin 3 → ℕ) x + S1x1x4096.size x ≤ S8x1x4096.size x)
    (hx1 : ∀ l k b, (x1 (ix3 l k b) : BitVec 32).toNat < 7) (hx2 : ∀ l b, (x2 (ix3 l 0 b) : BitVec 32).toNat < 2)
    (k : Fin 8) (d : Fin 64) (b : Fin 4096)
    (rest : k.val ≠ l → (v.read (Elt Ideal) (v.writes (Elt Ideal) f L) (ix3 k d b) : EReal)
      = blockAt x0 x1 x2 e0 e1 e2 e3 me k d b) :
    (v.read (Elt Ideal) (v.writes (Elt Ideal) f (⟨Rect.unit (s := S8x64x4096) ![l, 0, 0] S1x64x4096.size inb,
        k0_pay23 t
          (m1.view.readAt (Elt Ideal) (Rect.unit (s := S8x4x4096) ![l, 0, 0] S1x4x4096.size inb1).toLoadRect (h1.unread x1))
          (m2.view.readAt (Elt Ideal) (Rect.unit (s := S8x1x4096) ![l, 0, 0] S1x1x4096.size inb2).toLoadRect (h2.unread x2))
          (m0.view.readAt (Elt Ideal) (Rect.unit (s := S8x64x4096) ![l, 0, 0] S1x64x4096.size inb0).toLoadRect (h0.unread x0))⟩ :: L))
        (ix3 k d b) : EReal)
      = blockAt x0 x1 x2 e0 e1 e2 e3 me k d b := by
  refine (after_slab v f L l inb _ k d b).trans ?_
  by_cases h : k.val = l
  · rw [if_pos h]
    obtain rfl : k = ⟨l, hl⟩ := Fin.ext h
    have l0 := fun d b => load_slab m0 h0 x0 l inb0 hl d b
    have l1 := fun d b => load_slab m1 h1 x1 l inb1 hl d b
    have l2 := fun d b => load_slab m2 h2 x2 l inb2 hl d b
    refine (row_apply e0 e1 e2 e3 me t ht _ _ _ d b (fun j => ?_) ?_).trans ?_
    · exact lt_of_eq_of_lt (congrArg BitVec.toNat (l1 j b)) (hx1 _ _ _)
    · exact lt_of_eq_of_lt (congrArg BitVec.toNat (l2 0 b)) (hx2 _ _)
    · unfold blockAt
      exact congrArg₂ (· + ·) (l0 d b) (congrArg₂ (· + ·)
        (congrArg₂ (· + ·)
          (congrArg₂ (· + ·) (congrArg (fun w => rowAt e0 (BitVec.toNat w) d) (l1 0 b)) (congrArg (fun w => rowAt e1 (BitVec.toNat w) d) (l1 1 b)))
          (congrArg₂ (· + ·) (congrArg (fun w => rowAt e2 (BitVec.toNat w) d) (l1 2 b)) (congrArg (fun w => rowAt e3 (BitVec.toNat w) d) (l1 3 b))))
        (congrArg (fun w => rowAt me (BitVec.toNat w) d) (l2 0 b)))
  · rw [if_neg h]
    exact rest h

end Loads

set_option maxRecDepth 16384 in
/-- After its eight stores the output block holds, at every element, what it is to hold. -/
theorem rest_apply (c : Dev nD) (i : grid0.Coords) (arg1 : Memref sig .tc .vmem S8x64x4096 .f32) (harg1 : arg1.IsWhole) (arg2 : Memref sig .tc .vmem S8x4x4096 .i32) (harg2 : arg2.IsWhole) (arg3 : Memref sig .tc .vmem S8x1x4096 .i32) (harg3 : arg3.IsWhole) (arg4 : Memref sig .tc .vmem S13x64 .f32) (harg4 : arg4.IsWhole) (arg5 : Memref sig .tc .vmem S32x64 .f32) (harg5 : arg5.IsWhole) (arg6 : Memref sig .tc .vmem S7x64 .f32) (harg6 : arg6.IsWhole) (arg7 : Memref sig .tc .vmem S24x64 .f32) (harg7 : arg7.IsWhole) (arg8 : Memref sig .tc .vmem S2x64 .f32) (harg8 : arg8.IsWhole) (arg9 : Memref sig .tc .vmem S8x64x4096 .f32) (harg9 : arg9.IsWhole) (arg10 : Memref sig .tc .vmem S128x64 .bf16) (harg10 : arg10.IsWhole) (x0 : Vec Ideal S8x64x4096 .f32) (x1 : Vec Ideal S8x4x4096 .i32) (x2 : Vec Ideal S8x1x4096 .i32) (t : Vec Ideal S128x64 .bf16)
    (e0 : FVec Ideal ⟨2, ![13, 64]⟩ .f32) (e1 : FVec Ideal ⟨2, ![32, 64]⟩ .f32)
    (e2 : FVec Ideal ⟨2, ![7, 64]⟩ .f32) (e3 : FVec Ideal ⟨2, ![24, 64]⟩ .f32) (me : FVec Ideal ⟨2, ![2, 64]⟩ .f32)
    (ht : ∀ (k : Fin 128) (d : Fin 64), (t (ix2 k d) : EReal) = want e0 e1 e2 e3 me k d)
    (hx1 : ∀ l k b, (x1 (ix3 l k b) : BitVec 32).toNat < 7) (hx2 : ∀ l b, (x2 (ix3 l 0 b) : BitVec 32).toNat < 2)
    (v : View sig .tc .vmem S8x64x4096 .f32) (f : v.ty.Contents (Elt Ideal)) (k : Fin 8) (d : Fin 64) (b : Fin 4096) :
    (v.read (Elt Ideal) (v.writes (Elt Ideal) f (restRun (F := Ideal) c i arg1 harg1 arg2 harg2 arg3 harg3 arg4 harg4 arg5 harg5 arg6 harg6 arg7 harg7 arg8 harg8 arg9 harg9 arg10 harg10 x0 x1 x2 t (firstRow (F := Ideal) arg1 harg1 arg2 harg2 arg3 harg3 arg4 harg4 arg5 harg5 arg6 harg6 arg7 harg7 arg8 harg8 arg9 harg9 arg10 harg10 t x0 x1 x2)).1) (ix3 k d b) : EReal)
      = blockAt x0 x1 x2 e0 e1 e2 e3 me k d b := by
  refine slab_step v f _ 7 (by decide) _ t ht arg1 harg1 x0 arg2 harg2 x1 arg3 harg3 x2 _ _ _ hx1 hx2 k d b fun h7 => ?_
  refine slab_step v f _ 6 (by decide) _ t ht arg1 harg1 x0 arg2 harg2 x1 arg3 harg3 x2 _ _ _ hx1 hx2 k d b fun h6 => ?_
  refine slab_step v f _ 5 (by decide) _ t ht arg1 harg1 x0 arg2 harg2 x1 arg3 harg3 x2 _ _ _ hx1 hx2 k d b fun h5 => ?_
  refine slab_step v f _ 4 (by decide) _ t ht arg1 harg1 x0 arg2 harg2 x1 arg3 harg3 x2 _ _ _ hx1 hx2 k d b fun h4 => ?_
  refine slab_step v f _ 3 (by decide) _ t ht arg1 harg1 x0 arg2 harg2 x1 arg3 harg3 x2 _ _ _ hx1 hx2 k d b fun h3 => ?_
  refine slab_step v f _ 2 (by decide) _ t ht arg1 harg1 x0 arg2 harg2 x1 arg3 harg3 x2 _ _ _ hx1 hx2 k d b fun h2 => ?_
  refine slab_step v f _ 1 (by decide) _ t ht arg1 harg1 x0 arg2 harg2 x1 arg3 harg3 x2 _ _ _ hx1 hx2 k d b fun h1 => ?_
  refine slab_step v f _ 0 (by decide) _ t ht arg1 harg1 x0 arg2 harg2 x1 arg3 harg3 x2 _ _ _ hx1 hx2 k d b fun h0 => ?_
  exact absurd k.isLt (by omega)

end Cert.Value

end
-- ==== Proof.Value.Words.lean ====
/- Facts about one-bit conjunctions and small words, shared by the reading of the precondition and of the reference's
   table look-ups. -/
module

public import Idealize.ShloMosaic.PureOps
public import Idealize.ShloMosaic.PureOps.Reduce
public import Idealize.ShloMosaic.Lib.StableHlo.Predicate
public import Idealize.ShloMosaic.Lib.Pointwise

@[expose] public section

namespace Cert.Value

open Idealize.ShloMosaic Idealize.ShloMosaic.StableHlo.Predicate

/-- The conjunction of two bits is set exactly when both are. -/
theorem andi_eq_one (a b : BitVec 1) : IntOp.andi a b = 1#1 ↔ a = 1#1 ∧ b = 1#1 := by
  revert a b; decide

/-- The conjunction of finitely many bits is set exactly when each of them is. -/
theorem fold_andi {ι : Type} [DecidableEq ι] (s : Finset ι) (f : ι → BitVec 1) :
    s.fold IntOp.andi 1#1 f = 1#1 ↔ ∀ i ∈ s, f i = 1#1 := by
  induction s using Finset.cons_induction with
  | empty => exact ⟨fun _ _ h => absurd h (Finset.notMem_empty _), fun _ => rfl⟩
  | cons a s ha ih => rw [Finset.fold_cons, andi_eq_one, ih, Finset.forall_mem_cons]

/-- A `reduce` by conjunction from the set bit is set at `j` exactly when every element that drops to `j` is set. -/
theorem reduce_andi {s t u : Shape} {axes : List (Fin s.rank)} (x : IVec s 1) (h : s.ReducesTo axes t) (hu : 0 < u.numel)
    (j : t.Idx) : Host.reduce IntOp.andi x (constantI u 1 1#1) h hu j = 1#1 ↔ ∀ i, h.drop i = j → x i = 1#1 := by
  classical
  rw [Host.reduce_eq_fold]
  refine (fold_andi _ x).trans ⟨fun H i hi => H i (Finset.mem_filter.2 ⟨Finset.mem_univ _, hi⟩),
    fun H i hi => H i (Finset.mem_filter.1 hi).2⟩

/-- A word that is at least zero and below a small bound, both read signed, has its value below the bound. -/
theorem toNat_lt_of_signed (a b : BitVec 32) (hb : b.toNat < 2 ^ 31) (h0 : IntOp.cmpi .sge a 0#32 = 1#1)
    (h1 : IntOp.cmpi .slt a b = 1#1) : a.toNat < b.toNat := by
  simp only [IntOp.cmpi, BitVec.sle, BitVec.slt, ofBool_eq_one_iff, decide_eq_true_eq, toInt_eq_toNat_of_lt hb] at h0 h1
  have hz : (0#32 : BitVec 32).toInt = 0 := by decide
  have ha := BitVec.toInt_eq_toNat_cond a
  have hlt := a.isLt
  rw [hz] at h0
  split at ha <;> omega

end Cert.Value
-- ==== Proof.Value.Take.lean ====
/- `jnp.take` of the rows of a table at an array of indices, in its default fill mode, read at an element when every
   index is inside the table: the row that the index names. -/
module

public import proofs.«01_k».proof.Proof.Value.Words

@[expose] public section

namespace Cert.Value

open Idealize.ShloMosaic Idealize.ShloMosaic.StableHlo.Predicate

/-- The array of indices, the same with a last axis of one, the result, and a table of `N` rows of 64. -/
abbrev SIdx : Shape := ⟨2, ![4096, 200]⟩
abbrev SIdx1 : Shape := ⟨3, ![4096, 200, 1]⟩
abbrev SRes : Shape := ⟨3, ![4096, 200, 64]⟩
abbrev STab (N : ℕ) : Shape := ⟨2, ![N, 64]⟩

/-- The row gather: operand row `idx[b, l, 0]`, read signed and clamped into the table, at column `d`. -/
theorem gather_rows {α : Type} {N : ℕ} (hN : 0 < N) (g : GatherDims (STab N) SIdx1 SRes)
    (hoff : g.offsetDims = [2]) (hcoll : g.collapsedSliceDims = [0]) (hob : g.operandBatchingDims = [])
    (hsb : g.startIndicesBatchingDims = []) (hsim : g.startIndexMap = [0]) (hivd : g.indexVectorDim = 2)
    (hss : g.sliceSizes = ![1, 64]) (x : (STab N).Idx → α) (idx : IVec SIdx1 32) (b : Fin 4096) (l : Fin 200) (d : Fin 64) :
    Host.gather g x idx (ix3 b l d) = x (ix2 ⟨min (idx (ix3 b l 0)).toInt.toNat (N - 1), by omega⟩ d) := by
  obtain ⟨o, c, ob, sb, sm, iv, ss, wf⟩ := g
  dsimp only at hoff hcoll hob hsb hsim hivd hss
  subst hoff hcoll hob hsb hsim hivd hss
  unfold Host.gather
  congr 1
  funext a
  refine Fin.ext ?_
  show GatherDims.start _ _ _ a + GatherDims.batchCoord _ _ a + GatherDims.offCoord _ _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (List.mem_singleton.mpr rfl)]
    have hsi : ∀ k : Fin 1, GatherDims.siIdx (⟨[2], [0], [], [], [0], 2, ![1, 64], wf⟩ : GatherDims (STab N) SIdx1 SRes)
        (ix3 b l d) k = (ix3 b l 0 : SIdx1.Idx) := by
      intro k
      funext e; refine Fin.ext ?_
      match e with
      | ⟨0, _⟩ => rfl
      | ⟨1, _⟩ => rfl
      | ⟨2, _⟩ => exact Nat.lt_one_iff.1 k.isLt
    rw [hsi]
    rfl
  · unfold GatherDims.start
    rw [dif_neg (show (1 : Fin 2) ∉ ([0] : List (Fin 2)) by decide)]
    rw [Nat.zero_add]
    rfl

/-- What `jnp.take` computes before it gathers: a negative index counted from the end of the table. -/
abbrev wrapped (N : BitVec 32) (h0 : (⟨0, ![]⟩ : Shape).BroadcastsInDim SIdx ![]) (h1 : SIdx.BroadcastsInDim SIdx1 ![0, 1])
    (idx : IVec SIdx 32) : IVec SIdx1 32 :=
  broadcastInDim SIdx1 ![0, 1] h1 (select (cmpi .slt idx (broadcastInDim SIdx ![] h0 (constantI ⟨0, ![]⟩ 32 0#32)))
    (addi idx (broadcastInDim SIdx ![] h0 (constantI ⟨0, ![]⟩ 32 N))) idx)

/-- At an index whose value is below `2 ^ 31`, nothing is wrapped. -/
theorem wrapped_apply (N : BitVec 32) (h0 : (⟨0, ![]⟩ : Shape).BroadcastsInDim SIdx ![]) (h1 : SIdx.BroadcastsInDim SIdx1 ![0, 1])
    (idx : IVec SIdx 32) (b : Fin 4096) (l : Fin 200) (hb : (idx (ix2 b l)).toNat < 2 ^ 31) (k : Fin 1) :
    wrapped N h0 h1 idx (ix3 b l k) = idx (ix2 b l) := by
  pointwise [wrapped]
  refine Scalar.select_of_ne_one (fun h => ?_) _ _
  have := (slt_iff_toNat hb (by decide)).1 h
  simp at this

/-- THE TAKE: where every index is inside the table, the row that the index names. -/
theorem take_apply {F : FTy → Type} [FloatOps F] {N : ℕ} (hN : 0 < N) (hN31 : N < 2 ^ 31) (nw lw : BitVec 32)
    (hlw : lw = BitVec.ofNat 32 (N - 1)) (g : GatherDims (STab N) SIdx1 SRes)
    (hoff : g.offsetDims = [2]) (hcoll : g.collapsedSliceDims = [0]) (hob : g.operandBatchingDims = [])
    (hsb : g.startIndicesBatchingDims = []) (hsim : g.startIndexMap = [0]) (hivd : g.indexVectorDim = 2)
    (hss : g.sliceSizes = ![1, 64])
    (h0 : (⟨0, ![]⟩ : Shape).BroadcastsInDim SIdx ![]) (h1 : SIdx.BroadcastsInDim SIdx1 ![0, 1])
    (h2 : (⟨0, ![]⟩ : Shape).BroadcastsInDim SIdx1 ![]) (h3 : (⟨1, ![1]⟩ : Shape).BroadcastsInDim ⟨3, ![1, 1, 1]⟩ ![2])
    (h4 : (⟨3, ![1, 1, 1]⟩ : Shape).BroadcastsInDim SIdx1 ![0, 1, 2]) (h5 : SIdx.BroadcastsInDim SRes ![0, 1])
    (hr : SIdx1.ReducesTo [2] SIdx) (hu : 0 < (⟨0, ![]⟩ : Shape).numel)
    (x : FVec F (STab N) .f32) (nan : FVec F SRes .f32) (idx : IVec SIdx 32)
    (hidx : ∀ b l, (idx (ix2 b l)).toNat < N) (b : Fin 4096) (l : Fin 200) (d : Fin 64) :
    select (broadcastInDim SRes ![0, 1] h5 (Host.reduce IntOp.andi
        (andi (cmpi .sge (wrapped nw h0 h1 idx) (broadcastInDim SIdx1 ![] h2 (constantI ⟨0, ![]⟩ 32 0#32)))
          (cmpi .sle (wrapped nw h0 h1 idx) (broadcastInDim SIdx1 ![0, 1, 2] h4
            (broadcastInDim ⟨3, ![1, 1, 1]⟩ ![2] h3 (constantI ⟨1, ![1]⟩ 32 lw)))))
        (constantI ⟨0, ![]⟩ 1 1#1) hr hu))
      (Host.gather g x (wrapped nw h0 h1 idx)) nan (ix3 b l d) = x (ix2 ⟨(idx (ix2 b l)).toNat, hidx b l⟩ d) := by
  have hw : ∀ b l k, wrapped nw h0 h1 idx (ix3 b l k) = idx (ix2 b l) := fun b l k =>
    wrapped_apply nw h0 h1 idx b l (lt_trans (hidx b l) hN31) k
  have hlwN : lw.toNat = N - 1 := by rw [hlw, BitVec.toNat_ofNat]; omega
  have hmask : ∀ j, Host.reduce IntOp.andi
        (andi (cmpi .sge (wrapped nw h0 h1 idx) (broadcastInDim SIdx1 ![] h2 (constantI ⟨0, ![]⟩ 32 0#32)))
          (cmpi .sle (wrapped nw h0 h1 idx) (broadcastInDim SIdx1 ![0, 1, 2] h4
            (broadcastInDim ⟨3, ![1, 1, 1]⟩ ![2] h3 (constantI ⟨1, ![1]⟩ 32 lw)))))
        (constantI ⟨0, ![]⟩ 1 1#1) hr hu j = 1#1 := by
    intro j
    refine (reduce_andi _ hr hu j).2 fun i _ => ?_
    idx_vars i
    refine (andi_eq_one _ _).2 ⟨?_, ?_⟩
    · show IntOp.cmpi .sge (wrapped nw h0 h1 idx _) 0#32 = 1#1
      rw [hw]
      exact (sge_iff_toNat (lt_trans (hidx _ _) hN31) (by decide)).2 (Nat.zero_le _)
    · show IntOp.cmpi .sle (wrapped nw h0 h1 idx _) lw = 1#1
      rw [hw]
      have := hidx i0 i1
      exact (sle_iff_toNat (lt_trans (hidx _ _) hN31) (by omega)).2 (by omega)
  have hb5 : ∀ v : IVec SIdx 1, (∀ j, v j = 1#1) → broadcastInDim SRes ![0, 1] h5 v (ix3 b l d) = 1#1 := fun v hv => hv _
  rw [ValueIdx.select_apply, hb5 _ hmask, ValueIdx.select_one, gather_rows hN g hoff hcoll hob hsb hsim hivd hss]
  refine congrArg x (congrArg (fun r => ix2 r d) (Fin.ext ?_))
  have hlt := hidx b l
  show min (wrapped nw h0 h1 idx (ix3 b l 0)).toInt.toNat (N - 1) = _
  rw [hw, toInt_eq_toNat_of_lt (lt_trans hlt hN31)]
  show min (Int.toNat _) _ = (idx (ix2 b l)).toNat
  omega

end Cert.Value
-- ==== Proof.Value.Model.lean ====
/- What the problem computes, element by element: the input plus four time-table rows plus a mask-table row, the rows
   named by the tokens; and the tokens' range, which the claim's precondition states. -/
module

public import proofs.«01_k».proof.Proof.Value.Take
public import proofs.«01_k».proof.Proof.Gen.Pre_tokens_in_range
public import Idealize.ShloMosaic.PureOps.Ideal

@[expose] public section

noncomputable section

namespace Cert.Value

open Idealize.ShloMosaic

abbrev SMark : Shape := ⟨3, ![4096, 200, 4]⟩
abbrev SMask : Shape := ⟨3, ![4096, 200, 1]⟩

/-- Every time token is below 7 and every mask token below 2. -/
structure InRange (mark : IVec SMark 32) (mask : IVec SMask 32) : Prop where
  mark_lt : ∀ b l k, (mark (ix3 b l k)).toNat < 7
  mask_lt : ∀ b l, (mask (ix3 b l 0)).toNat < 2

/-- The row of a table of `N` rows that a token names, and row 0 where the token is outside the table. -/
def row {N : ℕ} (hN : 0 < N) (w : BitVec 32) : Fin N := ⟨if w.toNat < N then w.toNat else 0, by split <;> assumption⟩

theorem row_of_lt {N : ℕ} (hN : 0 < N) {w : BitVec 32} (h : w.toNat < N) : row hN w = ⟨w.toNat, h⟩ :=
  Fin.ext (if_pos h)

/-- The sum of the table rows that the tokens at `(b, l)` name, at column `d`. -/
def encode (mark : IVec SMark 32) (mask : IVec SMask 32) (e0 : FVec Ideal (STab 13) .f32)
    (e1 : FVec Ideal (STab 32) .f32) (e2 : FVec Ideal (STab 7) .f32) (e3 : FVec Ideal (STab 24) .f32)
    (me : FVec Ideal (STab 2) .f32) (b : Fin 4096) (l : Fin 200) (d : Fin 64) : EReal :=
  (((e0 (ix2 (row (by decide) (mark (ix3 b l 0))) d) : EReal) + e1 (ix2 (row (by decide) (mark (ix3 b l 1))) d))
    + (e2 (ix2 (row (by decide) (mark (ix3 b l 2))) d) + e3 (ix2 (row (by decide) (mark (ix3 b l 3))) d)))
  + me (ix2 (row (by decide) (mask (ix3 b l 0))) d)

/-- The printed precondition says that the tokens are in range. -/
theorem inRange_of_pre {F : FTy → Type} [FloatOps F] (x : FVec F SRes .f32) (mark : IVec SMark 32) (mask : IVec SMask 32)
    (e0 : FVec F (STab 13) .f32) (e1 : FVec F (STab 32) .f32) (e2 : FVec F (STab 7) .f32) (e3 : FVec F (STab 24) .f32)
    (me : FVec F (STab 2) .f32)
    (h : @Cert.Pre_tokens_in_range.fn Cert.Pre_tokens_in_range.Gen.facts F _ x mark mask e0 e1 e2 e3 me = fun _ => 1#1) :
    InRange mark mask := by
  have h0 := congrFun h (fun a => a.elim0)
  unfold Cert.Pre_tokens_in_range.fn at h0
  obtain ⟨hm, hk⟩ := (andi_eq_one _ _).1 h0
  have hm' := (reduce_andi _ _ _ _).1 hm
  have hk' := (reduce_andi _ _ _ _).1 hk
  refine ⟨fun b l k => ?_, fun b l => ?_⟩
  · obtain ⟨h1, h2⟩ := (andi_eq_one _ _).1 (hm' (ix3 b l k) (funext fun a => a.elim0))
    exact toNat_lt_of_signed _ 7#32 (by decide) h1 h2
  · obtain ⟨h1, h2⟩ := (andi_eq_one _ _).1 (hk' (ix3 b l 0) (funext fun a => a.elim0))
    exact toNat_lt_of_signed _ 2#32 (by decide) h1 h2

end Cert.Value

end
-- ==== Proof.Value.Blocks.lean ====
/- The blocks that the kernel's grid points read, in terms of the arguments, and the block that each point writes. -/
module

public import proofs.«01_k».proof.Proof.Value.Block
public import proofs.«01_k».proof.Proof.Value.Model
public import Idealize.ShloMosaic.Lib.Pipeline.ValueKit
public import Idealize.ShloMosaic.Lib.Claim

@[expose] public section

set_option maxRecDepth 16384

noncomputable section

namespace Cert.Value

open Idealize.ShloMosaic Idealize.ShloMosaic.TcCoe Cert.KernelIdeal Cert.KernelIdeal.Gen

variable (m : (ℓ : Loc nD τ sig) → Buf (Elt Ideal) ℓ) (c : Dev nD)

/-- The input block, token blocks and output block of point `t` start at row `8 t`; each table is one block. -/
theorem index_facts : ∀ t : Fin cfg0.N,
    (cfg0.win 0).index t = ![t.val, 0, 0] ∧ (cfg0.win 1).index t = ![t.val, 0, 0] ∧ (cfg0.win 2).index t = ![t.val, 0, 0]
    ∧ (cfg0.win 3).index t = ![0, 0] ∧ (cfg0.win 4).index t = ![0, 0] ∧ (cfg0.win 5).index t = ![0, 0]
    ∧ (cfg0.win 6).index t = ![0, 0] ∧ (cfg0.win 7).index t = ![0, 0] ∧ (cfg0.win 8).index t = ![t.val, 0, 0] := by
  decide +kernel

theorem point_lt (t : Fin cfg0.N) : t.val < 25 := lt_of_lt_of_eq t.isLt (show cfg0.N = 25 from N_0)

/-- Row `l` of point `t`'s blocks is row `8 t + l` of the arrays. -/
def rowOf (t : Fin cfg0.N) (l : Fin 8) : Fin 200 := ⟨8 * t.val + l.val, by have := point_lt t; omega⟩

/-- The region finds the input transposed, -/
theorem V_x : V m c main_v0 = transpose S200x64x4096 [1, 2, 0] (m ((c : Thread nD τ).loc main_arg0)) transposes_S4096x200x64_S200x64x4096_1_2_0 := by
  show StableHlo.after (List.flatten [hostOps0]) (fun b => m (c, b)) (Proc.tc.devRef main_v0) = _
  simp only [hostOps0, List.flatten_cons, List.flatten_nil, List.append_nil]
  after_results

/-- the time tokens transposed, -/
theorem V_mark : V m c main_v1 = transpose S200x4x4096 [1, 2, 0] (m ((c : Thread nD τ).loc main_arg1)) transposes_S4096x200x4_S200x4x4096_1_2_0 := by
  show StableHlo.after (List.flatten [hostOps0]) (fun b => m (c, b)) (Proc.tc.devRef main_v1) = _
  simp only [hostOps0, List.flatten_cons, List.flatten_nil, List.append_nil]
  after_results

/-- and the mask tokens transposed. -/
theorem V_mask : V m c main_v2 = transpose S200x1x4096 [1, 2, 0] (m ((c : Thread nD τ).loc main_arg2)) transposes_S4096x200x1_S200x1x4096_1_2_0 := by
  show StableHlo.after (List.flatten [hostOps0]) (fun b => m (c, b)) (Proc.tc.devRef main_v2) = _
  simp only [hostOps0, List.flatten_cons, List.flatten_nil, List.append_nil]
  after_results

/-- The input block of point `t`. -/
theorem block_x (t : Fin cfg0.N) (l : Fin 8) (d : Fin 64) (b : Fin 4096) :
    iblk m c 0 t (ix3 l d b) = m ((c : Thread nD τ).loc main_arg0) (ix3 b (rowOf t l) d) := by
  have h := (index_facts t).1
  show V m c main_v0 (((cfg0.win 0).blk t).view.emb (ix3 l d b)) = _
  rw [V_x]
  pointwise
  blk_ext [h, rowOf]

/-- The time-token block of point `t`. -/
theorem block_mark (t : Fin cfg0.N) (l : Fin 8) (k : Fin 4) (b : Fin 4096) :
    iblk m c 1 t (ix3 l k b) = m ((c : Thread nD τ).loc main_arg1) (ix3 b (rowOf t l) k) := by
  have h := (index_facts t).2.1
  show V m c main_v1 (((cfg0.win 1).blk t).view.emb (ix3 l k b)) = _
  rw [V_mark]
  pointwise
  blk_ext [h, rowOf]

/-- The mask-token block of point `t`. -/
theorem block_mask (t : Fin cfg0.N) (l : Fin 8) (b : Fin 4096) :
    iblk m c 2 t (ix3 l 0 b) = m ((c : Thread nD τ).loc main_arg2) (ix3 b (rowOf t l) 0) := by
  have h := (index_facts t).2.2.1
  show V m c main_v2 (((cfg0.win 2).blk t).view.emb (ix3 l 0 b)) = _
  rw [V_mask]
  pointwise
  blk_ext [h, rowOf]

/-- Each table's block is the table. -/
theorem block_e0 (t : Fin cfg0.N) : iblk m c 3 t = m ((c : Thread nD τ).loc main_arg3) := by
  have h := (index_facts t).2.2.2.1
  funext y
  show V m c main_arg3 (((cfg0.win 3).blk t).view.emb y) = _
  rw [V_main_arg3]
  blk_ext [h]

theorem block_e1 (t : Fin cfg0.N) : iblk m c 4 t = m ((c : Thread nD τ).loc main_arg4) := by
  have h := (index_facts t).2.2.2.2.1
  funext y
  show V m c main_arg4 (((cfg0.win 4).blk t).view.emb y) = _
  rw [V_main_arg4]
  blk_ext [h]

theorem block_e2 (t : Fin cfg0.N) : iblk m c 5 t = m ((c : Thread nD τ).loc main_arg5) := by
  have h := (index_facts t).2.2.2.2.2.1
  funext y
  show V m c main_arg5 (((cfg0.win 5).blk t).view.emb y) = _
  rw [V_main_arg5]
  blk_ext [h]

theorem block_e3 (t : Fin cfg0.N) : iblk m c 6 t = m ((c : Thread nD τ).loc main_arg6) := by
  have h := (index_facts t).2.2.2.2.2.2.1
  funext y
  show V m c main_arg6 (((cfg0.win 6).blk t).view.emb y) = _
  rw [V_main_arg6]
  blk_ext [h]

theorem block_me (t : Fin cfg0.N) : iblk m c 7 t = m ((c : Thread nD τ).loc main_arg7) := by
  have h := (index_facts t).2.2.2.2.2.2.2.1
  funext y
  show V m c main_arg7 (((cfg0.win 7).blk t).view.emb y) = _
  rw [V_main_arg7]
  blk_ext [h]

/-- The table that the kernel carries, from the argument tables. -/
theorem table_want (k : Fin 128) (d : Fin 64) :
    (tabM m c (ix2 k d) : EReal) = want (m ((c : Thread nD τ).loc main_arg3)) (m ((c : Thread nD τ).loc main_arg4))
      (m ((c : Thread nD τ).loc main_arg5)) (m ((c : Thread nD τ).loc main_arg6)) (m ((c : Thread nD τ).loc main_arg7)) k d := by
  rw [← block_e0 m c t0, ← block_e1 m c t0, ← block_e2 m c t0, ← block_e3 m c t0, ← block_me m c t0]
  exact build_want _ _ _ _ _ _ _ _ _ _ _ _ _ _ _ _ _ _ _ _ _ _ _ _ _ _ _ _ _ _ _ k d

/-- A row number inside the table names that row. -/
theorem rowAt_row {N : ℕ} (hN : 0 < N) (x : FVec Ideal ⟨2, ![N, 64]⟩ .f32) (w : BitVec 32) (h : w.toNat < N) (d : Fin 64) :
    rowAt x w.toNat d = x (ix2 (row hN w) d) := by
  unfold rowAt
  rw [dif_pos h, row_of_lt hN h]

/-- Element `(b, l, d)` of the result: the input's element plus the table rows that the tokens name. -/
def total (x : FVec Ideal SRes .f32) (mark : IVec SMark 32) (mask : IVec SMask 32) (e0 : FVec Ideal (STab 13) .f32)
    (e1 : FVec Ideal (STab 32) .f32) (e2 : FVec Ideal (STab 7) .f32) (e3 : FVec Ideal (STab 24) .f32)
    (me : FVec Ideal (STab 2) .f32) (b : Fin 4096) (l : Fin 200) (d : Fin 64) : EReal :=
  (x (ix3 b l d) : EReal) + encode mark mask e0 e1 e2 e3 me b l d

/-- The same, of the argument arrays of a memory. -/
abbrev totalOf (b : Fin 4096) (l : Fin 200) (d : Fin 64) : EReal :=
  total (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) b l d

/-- The block that point `t` writes, in terms of the arguments. -/
theorem out_apply (h : InRange (m ((c : Thread nD τ).loc main_arg1)) (m ((c : Thread nD τ).loc main_arg2)))
    (t : Fin cfg0.N) (l : Fin 8) (d : Fin 64) (b : Fin 4096) :
    (outM m c t (ix3 l d b) : EReal) = totalOf m c b (rowOf t l) d := by
  unfold outM
  refine (rest_apply _ _ _ _ _ _ _ _ _ _ _ _ _ _ _ _ _ _ _ _ _ _ _ _ _ _ _ _ _ _ _ (table_want m c)
    (fun l k b => ?_) (fun l b => ?_) _ _ l d b).trans ?_
  · exact lt_of_eq_of_lt (congrArg BitVec.toNat (block_mark m c t l k b)) (h.mark_lt _ _ _)
  · exact lt_of_eq_of_lt (congrArg BitVec.toNat (block_mask m c t l b)) (h.mask_lt _ _)
  · unfold totalOf total blockAt encode
    have h0 := h.mark_lt b (rowOf t l) 0
    have h1 := h.mark_lt b (rowOf t l) 1
    have h2 := h.mark_lt b (rowOf t l) 2
    have h3 := h.mark_lt b (rowOf t l) 3
    have h4 := h.mask_lt b (rowOf t l)
    rw [block_x, block_mark, block_mark, block_mark, block_mark, block_mask,
      rowAt_row (by decide) _ _ (by omega), rowAt_row (by decide) _ _ (by omega), rowAt_row (by decide) _ _ (by omega),
      rowAt_row (by decide) _ _ (by omega), rowAt_row (by decide) _ _ (by omega)]

end Cert.Value

end
-- ==== Proof.Value.Reference.lean ====
/- The reference's result, read at an element: the problem's formula. -/
module

public import proofs.«01_k».proof.Proof.Value.Model
public import proofs.«01_k».proof.Proof.Gen.ReferenceIdeal.Run

@[expose] public section

set_option maxRecDepth 16384

noncomputable section

namespace Cert.Value

open Idealize.ShloMosaic Idealize.SL.Sem Cert.ReferenceIdeal Cert.ReferenceIdeal.Gen

/-- Column `k` of the time tokens, as the reference takes it out of the array. -/
abbrev markCol (off : Fin 3 → ℕ) (h : S4096x200x4.Slices off S4096x200x1) (mark : IVec S4096x200x4 32) : IVec S4096x200 32 :=
  shapeCast _ (extractStridedSlice S4096x200x1 off mark h) shapeCasts_S4096x200x1_S4096x200

theorem maskCol_apply (mask : IVec S4096x200x1 32) (b : Fin 4096) (l : Fin 200) :
    shapeCast S4096x200 mask shapeCasts_S4096x200x1_S4096x200 (ix2 b l) = mask (ix3 b l 0) := by
  pointwise

/-- The reference's look-up in a table: the printed fill-mode take. -/
abbrev lookUp {N : ℕ} (nw lw : BitVec 32) (g : GatherDims (STab N) S4096x200x1 S4096x200x64) (x : FVec Ideal (STab N) .f32)
    (idx : IVec S4096x200 32) : FVec Ideal S4096x200x64 .f32 :=
  select (broadcastInDim S4096x200x64 ![0, 1] bcast_S4096x200_S4096x200x64_0_1 (Host.reduce IntOp.andi
      (andi (cmpi .sge (wrapped nw bcast_S_S4096x200 bcast_S4096x200_S4096x200x1_0_1 idx)
          (broadcastInDim S4096x200x1 ![] bcast_S_S4096x200x1 (constantI S_ 32 0#32)))
        (cmpi .sle (wrapped nw bcast_S_S4096x200 bcast_S4096x200_S4096x200x1_0_1 idx)
          (broadcastInDim S4096x200x1 ![0, 1, 2] bcast_S1x1x1_S4096x200x1_0_1_2
            (broadcastInDim S1x1x1 ![2] bcast_S1_S1x1x1_2 (constantI S1 32 lw)))))
      (constantI S_ 1 1#1) reducesTo_S4096x200x1_S4096x200_d2 h_S_))
    (Host.gather g x (wrapped nw bcast_S_S4096x200 bcast_S4096x200_S4096x200x1_0_1 idx))
    (broadcastInDim S4096x200x64 ![] bcast_S_S4096x200x64 (constant S_ .f32 0x7FC00000#32))

/-- The stack of four look-ups, summed over the stack. -/
abbrev stackSum (t0 t1 t2 t3 : FVec Ideal S4096x200x64 .f32) : FVec Ideal S4096x200x64 .f32 :=
  Host.reduceAdd (Cert.ReferenceIdeal.Value.fn_main_v16 (F := Ideal)
      (broadcastInDim S1x4096x200x64 ![1, 2, 3] bcast_S4096x200x64_S1x4096x200x64_1_2_3 t0)
      (broadcastInDim S1x4096x200x64 ![1, 2, 3] bcast_S4096x200x64_S1x4096x200x64_1_2_3 t1)
      (broadcastInDim S1x4096x200x64 ![1, 2, 3] bcast_S4096x200x64_S1x4096x200x64_1_2_3 t2)
      (broadcastInDim S1x4096x200x64 ![1, 2, 3] bcast_S4096x200x64_S1x4096x200x64_1_2_3 t3))
    (constant S_ .f32 0x00000000#32) reducesTo_S4x4096x200x64_S4096x200x64_d0 h_S_

theorem stackSum_apply (t0 t1 t2 t3 : FVec Ideal S4096x200x64 .f32) (b : Fin 4096) (l : Fin 200) (d : Fin 64) :
    stackSum t0 t1 t2 t3 (ix3 b l d)
      = ((t0 (ix3 b l d) + t1 (ix3 b l d)) + (t2 (ix3 b l d) + t3 (ix3 b l d)) : EReal) := by
  unfold stackSum Cert.ReferenceIdeal.Value.fn_main_v16
  pointwise
  refine (Fin.sum_univ_four _).trans ?_
  simp
  ac_rfl

/-- The reference's result as a term of its arguments. -/
abbrev refTerm (x : FVec Ideal S4096x200x64 .f32) (mark : IVec S4096x200x4 32) (mask : IVec S4096x200x1 32)
    (e0 : FVec Ideal S13x64 .f32) (e1 : FVec Ideal S32x64 .f32) (e2 : FVec Ideal S7x64 .f32) (e3 : FVec Ideal S24x64 .f32)
    (me : FVec Ideal S2x64 .f32) : FVec Ideal S4096x200x64 .f32 :=
  addf (addf x (stackSum
      (lookUp 13#32 12#32 gather_S13x64_S4096x200x1_S4096x200x64_2_0_n_n_0_2_164 e0
        (markCol ![0, 0, 0] slices_S4096x200x4_S4096x200x1_0_0_0 mark))
      (lookUp 32#32 31#32 gather_S32x64_S4096x200x1_S4096x200x64_2_0_n_n_0_2_164 e1
        (markCol ![0, 0, 1] slices_S4096x200x4_S4096x200x1_0_0_1 mark))
      (lookUp 7#32 6#32 gather_S7x64_S4096x200x1_S4096x200x64_2_0_n_n_0_2_164 e2
        (markCol ![0, 0, 2] slices_S4096x200x4_S4096x200x1_0_0_2 mark))
      (lookUp 24#32 23#32 gather_S24x64_S4096x200x1_S4096x200x64_2_0_n_n_0_2_164 e3
        (markCol ![0, 0, 3] slices_S4096x200x4_S4096x200x1_0_0_3 mark))))
    (lookUp 2#32 1#32 gather_S2x64_S4096x200x1_S4096x200x64_2_0_n_n_0_2_164 me
      (shapeCast S4096x200 mask shapeCasts_S4096x200x1_S4096x200))

theorem reference_term (m : (ℓ : Loc nD τ sig) → Buf (Elt Ideal) ℓ) (c : Dev nD) :
    Cert.ReferenceIdeal.Value.res_main_v21 m c
      = refTerm (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v21
  rfl

/-- A look-up at tokens inside the table reads the row that the token names. -/
theorem lookUp_apply {N : ℕ} (hN : 0 < N) (hN31 : N < 2 ^ 31) (nw lw : BitVec 32) (hlw : lw = BitVec.ofNat 32 (N - 1))
    (g : GatherDims (STab N) S4096x200x1 S4096x200x64)
    (hoff : g.offsetDims = [2]) (hcoll : g.collapsedSliceDims = [0]) (hob : g.operandBatchingDims = [])
    (hsb : g.startIndicesBatchingDims = []) (hsim : g.startIndexMap = [0]) (hivd : g.indexVectorDim = 2)
    (hss : g.sliceSizes = ![1, 64]) (x : FVec Ideal (STab N) .f32) (idx : IVec S4096x200 32)
    (tok : Fin 4096 → Fin 200 → BitVec 32) (htok : ∀ b l, idx (ix2 b l) = tok b l) (hlt : ∀ b l, (tok b l).toNat < N)
    (b : Fin 4096) (l : Fin 200) (d : Fin 64) :
    lookUp nw lw g x idx (ix3 b l d) = x (ix2 (row hN (tok b l)) d) := by
  refine (take_apply hN hN31 nw lw hlw g hoff hcoll hob hsb hsim hivd hss _ _ _ _ _ _ _ _ x _ idx
    (fun b l => by rw [htok]; exact hlt b l) b l d).trans (congrArg x (congrArg (fun r => ix2 r d) ?_))
  rw [row_of_lt hN (hlt b l)]
  exact Fin.ext (congrArg BitVec.toNat (htok b l))

/-- THE REFERENCE AT AN ELEMENT. -/
theorem refTerm_apply (x : FVec Ideal S4096x200x64 .f32) (mark : IVec S4096x200x4 32) (mask : IVec S4096x200x1 32)
    (e0 : FVec Ideal S13x64 .f32) (e1 : FVec Ideal S32x64 .f32) (e2 : FVec Ideal S7x64 .f32) (e3 : FVec Ideal S24x64 .f32)
    (me : FVec Ideal S2x64 .f32) (h : InRange mark mask) (b : Fin 4096) (l : Fin 200) (d : Fin 64) :
    refTerm x mark mask e0 e1 e2 e3 me (ix3 b l d)
      = ((x (ix3 b l d) : EReal) + encode mark mask e0 e1 e2 e3 me b l d : EReal) := by
  have hm : ∀ k b l N, 7 ≤ N → (mark (ix3 b l k)).toNat < N := fun k b l N hN => lt_of_lt_of_le (h.mark_lt b l k) hN
  show ((x (ix3 b l d) : EReal) + (stackSum _ _ _ _ (ix3 b l d) : EReal)) + (lookUp _ _ _ _ _ (ix3 b l d) : EReal) = _
  rw [stackSum_apply,
    lookUp_apply (N := 13) (by decide) (by decide) _ _ rfl _ rfl rfl rfl rfl rfl rfl rfl e0 _
      (fun b l => mark (ix3 b l 0)) (fun b l => by pointwise) (fun b l => hm 0 b l _ (by decide)),
    lookUp_apply (N := 32) (by decide) (by decide) _ _ rfl _ rfl rfl rfl rfl rfl rfl rfl e1 _
      (fun b l => mark (ix3 b l 1)) (fun b l => by pointwise) (fun b l => hm 1 b l _ (by decide)),
    lookUp_apply (N := 7) (by decide) (by decide) _ _ rfl _ rfl rfl rfl rfl rfl rfl rfl e2 _
      (fun b l => mark (ix3 b l 2)) (fun b l => by pointwise) (fun b l => hm 2 b l _ (by decide)),
    lookUp_apply (N := 24) (by decide) (by decide) _ _ rfl _ rfl rfl rfl rfl rfl rfl rfl e3 _
      (fun b l => mark (ix3 b l 3)) (fun b l => by pointwise) (fun b l => hm 3 b l _ (by decide)),
    lookUp_apply (N := 2) (by decide) (by decide) _ _ rfl _ rfl rfl rfl rfl rfl rfl rfl me _
      (fun b l => mask (ix3 b l 0)) (fun b l => maskCol_apply mask b l) (fun b l => h.mask_lt b l)]
  exact add_assoc _ _ _

end Cert.Value

end
-- ==== Proof.Value.Result.lean ====
/- The kernel's result array after a run, and its agreement with the reference's. -/
module

public import proofs.«01_k».proof.Proof.Value.Blocks
public import proofs.«01_k».proof.Proof.Value.Reference

@[expose] public section

set_option maxRecDepth 16384

noncomputable section

namespace Cert.Value

open Idealize.ShloMosaic Idealize.ShloMosaic.TcCoe Cert.KernelIdeal Cert.KernelIdeal.Gen

variable (m : (ℓ : Loc nD τ sig) → Buf (Elt Ideal) ℓ) (c : Dev nD)

/-- The written blocks together hold the result, transposed. -/
theorem array_eq (h : InRange (m ((c : Thread nD τ).loc main_arg1)) (m ((c : Thread nD τ).loc main_arg2))) :
    (dats m 0 c).arrAt 8 (cfgs 0).N = fun i : S200x64x4096.Idx => totalOf m c (i 2) (i 0) (i 1) := by
  refine (dats m 0 c).arrAt_eq_of_covers 8 _ (by decide +kernel) fun t hf y => ?_
  have hi := (index_facts t).2.2.2.2.2.2.2.2
  blk_simp
  rw [after0_8]
  idx_vars y
  have he : ((cfg0.win 8).blk t).view.emb (ix3 y0 y1 y2) = (ix3 (rowOf t y0) y1 y2 : S200x64x4096.Idx) := by
    blk_ext [hi, rowOf]
  show outM m c t (ix3 y0 y1 y2) = (fun i : S200x64x4096.Idx => totalOf m c (i 2) (i 0) (i 1)) (((cfg0.win 8).blk t).view.emb (ix3 y0 y1 y2))
  rw [he]
  exact out_apply m c h t y0 y1 y2

/-- The result array holds the total at every element. -/
theorem result_eq (h : InRange (m ((c : Thread nD τ).loc main_arg1)) (m ((c : Thread nD τ).loc main_arg2))) :
    Pipeline.afterTail₀ cfgs (dats m) 0 (V0 m) [hostOps1] c main_v4 = fun i : S4096x200x64.Idx => totalOf m c (i 0) (i 1) (i 2) := by
  unfold Pipeline.afterTail₀
  simp only [hostOps1, List.flatten_cons, List.flatten_nil, List.append_nil]
  after_results
  have hw := Pipeline.withArrays_arr (cfgs 0).spec (by decide) c (V0 m c) (fun w => (dats m 0 c).arrAt w (cfgs 0).N) 8
  refine (congrArg (fun z => transpose S4096x200x64 [2, 0, 1] z transposes_S200x64x4096_S4096x200x64_2_0_1)
    (hw.trans (array_eq m c h))).trans ?_
  funext i
  idx_vars i
  pointwise

/-- Every run of the kernel ends with the total in the result array and the arguments as they were. -/
theorem kernel_run (ρ : Dev nD → PrngReg)
    (h : ∀ c : Dev nD, InRange (m ((c : Thread nD τ).loc main_arg1)) (m ((c : Thread nD τ).loc main_arg2))) :
    θ_run defs (onTc (τ := τ) (main (F := Ideal))) ⟨m, fun _ => 0, ρ⟩ (fun r => ∀ c : Dev nD,
      r.2.mem ((c.tc : Thread nD τ).loc main_v4) = fun i : S4096x200x64.Idx => totalOf m c (i 0) (i 1) (i 2)) :=
  (θ_run defs _ _).mono (fun _ hr c =>
    ((hr c).2 main_v4 (Pipeline.mem_restRefs_of main_v4 (by decide) (by decide))).trans (result_eq m c (h c))) (run_main m ρ)

/-- The reference's result is the total too. -/
theorem refTerm_total (x : FVec Ideal SRes .f32) (mark : IVec SMark 32) (mask : IVec SMask 32) (e0 : FVec Ideal (STab 13) .f32)
    (e1 : FVec Ideal (STab 32) .f32) (e2 : FVec Ideal (STab 7) .f32) (e3 : FVec Ideal (STab 24) .f32)
    (me : FVec Ideal (STab 2) .f32) (h : InRange mark mask) :
    refTerm x mark mask e0 e1 e2 e3 me = fun i : SRes.Idx => total x mark mask e0 e1 e2 e3 me (i 0) (i 1) (i 2) := by
  funext i
  idx_vars i
  exact refTerm_apply x mark mask e0 e1 e2 e3 me h _ _ _

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_tokens_in_range
public import proofs.«01_k».proof.Proof.KernelIdeal.Frame
public import proofs.«01_k».proof.Proof.Kernel.Frame
public import proofs.«01_k».proof.Proof.Value.Result
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- Every run of the reference ends with its arguments as they were and every counter at zero. -/
theorem frame_reference : @Cert.quiescent_ReferenceIdeal Cert.ReferenceIdeal.Gen.facts := by
  intro m g _
  exact θ_run_mono (Cert.ReferenceIdeal.Value.run (F := Ideal) m g) fun r h =>
    ⟨fun c => (h c).2, sem_eq_zero_of_no_sems (by decide) r.2⟩

/-- The kernel and the reference end with the same array, each entry of which is the input plus its encoding. -/
theorem algebraic : @Cert.algebraic_KernelIdeal_ReferenceIdeal_pre_tokens_in_range Cert.KernelIdeal.Gen.facts
    Cert.ReferenceIdeal.Gen.facts Cert.Pre_tokens_in_range.Gen.facts := by
  intro m g m' g' hpre hargs
  have hr := fun c : Dev Cert.KernelIdeal.nD => Cert.Value.inRange_of_pre _ _ _ _ _ _ _ _ (hpre c)
  refine ⟨fun c i => Cert.Value.totalOf m c (i 0) (i 1) (i 2), ?_, ?_⟩
  · exact θ_run_mono (θ_run_and (Cert.Value.kernel_run m g hr) (Cert.KernelIdeal.Gen.unchanged m g)) fun r h c =>
      ⟨h.1 c, h.2 c⟩
  · refine θ_run_mono (Cert.ReferenceIdeal.Value.run (F := Ideal) m' g') fun r h c => ⟨(h c).1.trans ?_, (h c).2⟩
    obtain ⟨h0, h1, h2, h3, h4, h5, h6, h7⟩ := hargs c
    rw [Cert.Value.reference_term, h0, h1, h2, h3, h4, h5, h6, h7]
    exact Cert.Value.refTerm_total _ _ _ _ _ _ _ _ (hr c)

/-- Everything that is claimed. -/
theorem claim : Cert.Claim :=
  ⟨Cert.Kernel.Gen.facts, Cert.KernelIdeal.Gen.facts, Cert.ReferenceIdeal.Gen.facts, Cert.Pre_tokens_in_range.Gen.facts,
    fun m g _ => Cert.Kernel.Gen.frame m g, fun m g _ => Cert.KernelIdeal.Gen.frame m g,
    fun m g _ => Cert.KernelIdeal.Gen.frame m g, frame_reference, fun m g _ => frame_reference m g trivial,
    trivial, algebraic⟩

end Cert.Proof

end
